-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x255x52x52 : Shape := ⟨4, ![32, 255, 52, 52]⟩
abbrev S32x255x2704 : Shape := ⟨3, ![32, 255, 2704]⟩
abbrev S32x8112x85 : Shape := ⟨3, ![32, 8112, 85]⟩
abbrev S3x255x2704 : Shape := ⟨3, ![3, 255, 2704]⟩
abbrev S3x8112x85 : Shape := ⟨3, ![3, 8112, 85]⟩
abbrev S3 : Shape := ⟨1, ![3]⟩
abbrev S1 : Shape := ⟨1, ![1]⟩
abbrev S_ : Shape := ⟨0, ![]⟩
abbrev S1x255x2704 : Shape := ⟨3, ![1, 255, 2704]⟩
abbrev S255x2704 : Shape := ⟨2, ![255, 2704]⟩
abbrev S1x8112x85 : Shape := ⟨3, ![1, 8112, 85]⟩
abbrev S8112x85 : Shape := ⟨2, ![8112, 85]⟩
abbrev S8x2704 : Shape := ⟨2, ![8, 2704]⟩
abbrev S77x2704 : Shape := ⟨2, ![77, 2704]⟩
abbrev S85x2704 : Shape := ⟨2, ![85, 2704]⟩
abbrev S2704x85 : Shape := ⟨2, ![2704, 85]⟩

abbrev nBuf : Space → Nat
  | .hbm => 3
  | .vmem => 2
  | .smem => 0
  | _ => 0

abbrev bufTy : (tb : Table) → Fin (tcTables nBuf tb) → BufTy
  | .hbm, ⟨0, _⟩ => ⟨S32x255x52x52, .f32⟩
  | .hbm, ⟨1, _⟩ => ⟨S32x255x2704, .f32⟩
  | .hbm, ⟨2, _⟩ => ⟨S32x8112x85, .f32⟩
  | .local _ .vmem, ⟨0, _⟩ => ⟨S3x255x2704, .f32⟩
  | .local _ .vmem, ⟨1, _⟩ => ⟨S3x8112x85, .f32⟩
  | _, _ => ⟨S32x255x52x52, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32 : BitVec 32 := 1#32
  let v4 : BitVec 1 := Scalar.cmpi .sge arg0 c1_i32
  let c3_i32_1 : BitVec 32 := 3#32
  let v5 : BitVec 32 := Scalar.addi arg0 c3_i32_1
  let c1_i32_2 : BitVec 32 := 1#32
  let v6 : BitVec 32 := Scalar.subi v5 c1_i32_2
  let c31_i32 : BitVec 32 := 31#32
  let v7 : BitVec 1 := Scalar.cmpi .sle v6 c31_i32
  let v8 : BitVec 1 := Scalar.andi v4 v7
  let v9 : BitVec 32 := Scalar.extui v8
  let c0_i32_3 : BitVec 32 := 0#32
  let v10 : BitVec 1 := Scalar.cmpi .ne v9 c0_i32_3
  v10

def k0_off1 (i : grid0.Coords) : Fin 1 → Nat :=
  let arg0 : BitVec 32 := BitVec.ofNat 32 (i 0).val
  let c3_i32_48 : BitVec 32 := 3#32
  let v148 : BitVec 32 := Scalar.addi arg0 c3_i32_48
  let c1_i32_49 : BitVec 32 := 1#32
  let v149 : BitVec 32 := Scalar.subi v148 c1_i32_49
  let c3_i32_50 : BitVec 32 := 3#32
  let v150 : BitVec 32 := Scalar.remsi v149 c3_i32_50
  ![v150.toNat]
def k0_off2 (i : grid0.Coords) : Fin 3 → Nat :=
  let arg0 : BitVec 32 := BitVec.ofNat 32 (i 0).val
  let c3_i32_48 : BitVec 32 := 3#32
  let v148 : BitVec 32 := Scalar.addi arg0 c3_i32_48
  let c1_i32_49 : BitVec 32 := 1#32
  let v149 : BitVec 32 := Scalar.subi v148 c1_i32_49
  let c3_i32_50 : BitVec 32 := 3#32
  let v150 : BitVec 32 := Scalar.remsi v149 c3_i32_50
  let c0_i32_51 : BitVec 32 := 0#32
  let c0_i32_52 : BitVec 32 := 0#32
  ![v150.toNat, 0, 0]
def k0_off3 (i : grid0.Coords) : Fin 3 → Nat :=
  let arg0 : BitVec 32 := BitVec.ofNat 32 (i 0).val
  let c3_i32_46 : BitVec 32 := 3#32
  let v146 : BitVec 32 := Scalar.addi arg0 c3_i32_46
  let c1_i32_47 : BitVec 32 := 1#32
  let v147 : BitVec 32 := Scalar.subi v146 c1_i32_47
  let c0_i32_53 : BitVec 32 := 0#32
  let c0_i32_54 : BitVec 32 := 0#32
  ![v147.toNat, 0, 0]
def k0_cond3 (i : grid0.Coords) : BitVec 1 :=
  let arg0 : BitVec 32 := BitVec.ofNat 32 (i 0).val
  let c3_i32_4 : BitVec 32 := 3#32
  let v11 : BitVec 1 := Scalar.cmpi .sge arg0 c3_i32_4
  let v12 : BitVec 32 := Scalar.extui v11
  let c0_i32_5 : BitVec 32 := 0#32
  let v13 : BitVec 1 := Scalar.cmpi .ne v12 c0_i32_5
  v13

def k0_off4 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off5 (i : grid0.Coords) : Fin 3 → Nat :=
  let arg0 : BitVec 32 := BitVec.ofNat 32 (i 0).val
  let c3_i32_46 : BitVec 32 := 3#32
  let v146 : BitVec 32 := Scalar.subi arg0 c3_i32_46
  let c0_i32_47 : BitVec 32 := 0#32
  let c0_i32_48 : BitVec 32 := 0#32
  ![v146.toNat, 0, 0]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_49 : BitVec 32 := 0#32
  let c0_i32_50 : BitVec 32 := 0#32
  ![v0.toNat, 0, 0]
def k0_off7 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off8 (i : grid0.Coords) : Fin 3 → Nat :=
  let arg0 : BitVec 32 := BitVec.ofNat 32 (i 0).val
  let c3_i32 : BitVec 32 := 3#32
  let v0 : BitVec 32 := Scalar.remsi arg0 c3_i32
  let c0_i32_6 : BitVec 32 := 0#32
  let c0_i32_7 : BitVec 32 := 0#32
  ![v0.toNat, 0, 0]
def k0_off9 (i : grid0.Coords) : Fin 3 → Nat :=
  let arg0 : BitVec 32 := BitVec.ofNat 32 (i 0).val
  let c0_i32_8 : BitVec 32 := 0#32
  let c0_i32_9 : BitVec 32 := 0#32
  ![arg0.toNat, 0, 0]
def k0_off10 (i : grid0.Coords) : Fin 3 → Nat :=
  let arg0 : BitVec 32 := BitVec.ofNat 32 (i 0).val
  let c3_i32 : BitVec 32 := 3#32
  let v0 : BitVec 32 := Scalar.remsi arg0 c3_i32
  let v20 : Index := Scalar.indexCast v0
  let c0 : Index := 0#32
  let c0_10 : Index := 0#32
  ![v20.toNat, 0, 0]
def k0_off11 (i : grid0.Coords) : Fin 3 → Nat :=
  let arg0 : BitVec 32 := BitVec.ofNat 32 (i 0).val
  let c3_i32 : BitVec 32 := 3#32
  let v0 : BitVec 32 := Scalar.remsi arg0 c3_i32
  let v133 : Index := Scalar.indexCast v0
  let c0_38 : Index := 0#32
  let c0_39 : Index := 0#32
  ![v133.toNat, 0, 0]
def k0_off12 (i : grid0.Coords) : Fin 3 → Nat :=
  let arg0 : BitVec 32 := BitVec.ofNat 32 (i 0).val
  let c0_i32_40 : BitVec 32 := 0#32
  let c0_i32_41 : BitVec 32 := 0#32
  ![arg0.toNat, 0, 0]
def k0_off13 (i : grid0.Coords) : Fin 3 → Nat :=
  let arg0 : BitVec 32 := BitVec.ofNat 32 (i 0).val
  let c3_i32 : BitVec 32 := 3#32
  let v0 : BitVec 32 := Scalar.remsi arg0 c3_i32
  let c0_i32_42 : BitVec 32 := 0#32
  let c0_i32_43 : BitVec 32 := 0#32
  ![v0.toNat, 0, 0]
-- ==== ReferenceIdeal.lean ====
abbrev S32x255x52x52 : Shape := ⟨4, ![32, 255, 52, 52]⟩
abbrev S3x2 : Shape := ⟨2, ![3, 2]⟩
abbrev S32x3x85x52x52 : Shape := ⟨5, ![32, 3, 85, 52, 52]⟩
abbrev S32x3x52x52x85 : Shape := ⟨5, ![32, 3, 52, 52, 85]⟩
abbrev S32x3x52x52x1 : Shape := ⟨5, ![32, 3, 52, 52, 1]⟩
abbrev S32x3x52x52 : Shape := ⟨4, ![32, 3, 52, 52]⟩
abbrev S_ : Shape := ⟨0, ![]⟩
abbrev S32x3x52x52x80 : Shape := ⟨5, ![32, 3, 52, 52, 80]⟩
abbrev S52 : Shape := ⟨1, ![52]⟩
abbrev S1x1x1x52 : Shape := ⟨4, ![1, 1, 1, 52]⟩
abbrev S1x1x52x1 : Shape := ⟨4, ![1, 1, 52, 1]⟩
abbrev S3x1 : Shape := ⟨2, ![3, 1]⟩
abbrev S3 : Shape := ⟨1, ![3]⟩
abbrev S1x3x1x1 : Shape := ⟨4, ![1, 3, 1, 1]⟩
abbrev S32x3x52x52x4 : Shape := ⟨5, ![32, 3, 52, 52, 4]⟩
abbrev S32x8112x4 : Shape := ⟨3, ![32, 8112, 4]⟩
abbrev S32x8112x1 : Shape := ⟨3, ![32, 8112, 1]⟩
abbrev S32x8112x80 : Shape := ⟨3, ![32, 8112, 80]⟩
abbrev S32x8112x85 : Shape := ⟨3, ![32, 8112, 85]⟩

abbrev nBuf : Space → Nat
  | .hbm => 82
  | .vmem => 0
  | .smem => 0
  | _ => 0

abbrev bufTy : (tb : Table) → Fin (tcTables nBuf tb) → BufTy
  | .hbm, ⟨0, _⟩ => ⟨S32x255x52x52, .f32⟩
  | .hbm, ⟨1, _⟩ => ⟨S3x2, .f32⟩
  | .hbm, ⟨2, _⟩ => ⟨S32x3x85x52x52, .f32⟩
  | .hbm, ⟨3, _⟩ => ⟨S32x3x52x52x85, .f32⟩
  | .hbm, ⟨4, _⟩ => ⟨S32x3x52x52x1, .f32⟩
  | .hbm, ⟨5, _⟩ => ⟨S32x3x52x52, .f32⟩
  | .hbm, ⟨6, _⟩ => ⟨S32x3x52x52, .f32⟩
  | .hbm, ⟨7, _⟩ => ⟨S32x3x52x52, .f32⟩
  | .hbm, ⟨8, _⟩ => ⟨S_, .f32⟩
  | .hbm, ⟨9, _⟩ => ⟨S32x3x52x52, .f32⟩
  | .hbm, ⟨10, _⟩ => ⟨S32x3x52x52, .f32⟩
  | .hbm, ⟨11, _⟩ => ⟨S_, .f32⟩
  | .hbm, ⟨12, _⟩ => ⟨S32x3x52x52, .f32⟩
  | .hbm, ⟨13, _⟩ => ⟨S32x3x52x52, .f32⟩
  | .hbm, ⟨14, _⟩ => ⟨S32x3x52x52x1, .f32⟩
  | .hbm, ⟨15, _⟩ => ⟨S32x3x52x52, .f32⟩
  | .hbm, ⟨16, _⟩ => ⟨S32x3x52x52, .f32⟩
  | .hbm, ⟨17, _⟩ => ⟨S32x3x52x52, .f32⟩
  | .hbm, ⟨18, _⟩ => ⟨S_, .f32⟩
  | .hbm, ⟨19, _⟩ => ⟨S32x3x52x52, .f32⟩
  | .hbm, ⟨20, _⟩ => ⟨S32x3x52x52, .f32⟩
  | .hbm, ⟨21, _⟩ => ⟨S_, .f32⟩
  | .hbm, ⟨22, _⟩ => ⟨S32x3x52x52, .f32⟩
  | .hbm, ⟨23, _⟩ => ⟨S32x3x52x52, .f32⟩
  | .hbm, ⟨24, _⟩ => ⟨S32x3x52x52x1, .f32⟩
  | .hbm, ⟨25, _⟩ => ⟨S32x3x52x52, .f32⟩
  | .hbm, ⟨26, _⟩ => ⟨S32x3x52x52x1, .f32⟩
  | .hbm, ⟨27, _⟩ => ⟨S32x3x52x52, .f32⟩
  | .hbm, ⟨28, _⟩ => ⟨S32x3x52x52x1, .f32⟩
  | .hbm, ⟨29, _⟩ => ⟨S32x3x52x52, .f32⟩
  | .hbm, ⟨30, _⟩ => ⟨S32x3x52x52, .f32⟩
  | .hbm, ⟨31, _⟩ => ⟨S32x3x52x52, .f32⟩
  | .hbm, ⟨32, _⟩ => ⟨S_, .f32⟩
  | .hbm, ⟨33, _⟩ => ⟨S32x3x52x52, .f32⟩
  | .hbm, ⟨34, _⟩ => ⟨S32x3x52x52, .f32⟩
  | .hbm, ⟨35, _⟩ => ⟨S_, .f32⟩
  | .hbm, ⟨36, _⟩ => ⟨S32x3x52x52, .f32⟩
  | .hbm, ⟨37, _⟩ => ⟨S32x3x52x52, .f32⟩
  | .hbm, ⟨38, _⟩ => ⟨S32x3x52x52x80, .f32⟩
  | .hbm, ⟨39, _⟩ => ⟨S32x3x52x52x80, .f32⟩
  | .hbm, ⟨40, _⟩ => ⟨S32x3x52x52x80, .f32⟩
  | .hbm, ⟨41, _⟩ => ⟨S_, .f32⟩
  | .hbm, ⟨42, _⟩ => ⟨S32x3x52x52x80, .f32⟩
  | .hbm, ⟨43, _⟩ => ⟨S32x3x52x52x80, .f32⟩
  | .hbm, ⟨44, _⟩ => ⟨S_, .f32⟩
  | .hbm, ⟨45, _⟩ => ⟨S32x3x52x52x80, .f32⟩
  | .hbm, ⟨46, _⟩ => ⟨S32x3x52x52x80, .f32⟩
  | .hbm, ⟨47, _⟩ => ⟨S52, .f32⟩
  | .hbm, ⟨48, _⟩ => ⟨S1x1x1x52, .f32⟩
  | .hbm, ⟨49, _⟩ => ⟨S52, .f32⟩
  | .hbm, ⟨50, _⟩ => ⟨S1x1x52x1, .f32⟩
  | .hbm, ⟨51, _⟩ => ⟨S_, .f32⟩
  | .hbm, ⟨52, _⟩ => ⟨S3x2, .f32⟩
  | .hbm, ⟨53, _⟩ => ⟨S3x2, .f32⟩
  | .hbm, ⟨54, _⟩ => ⟨S3x1, .f32⟩
  | .hbm, ⟨55, _⟩ => ⟨S3, .f32⟩
  | .hbm, ⟨56, _⟩ => ⟨S1x3x1x1, .f32⟩
  | .hbm, ⟨57, _⟩ => ⟨S3x1, .f32⟩
  | .hbm, ⟨58, _⟩ => ⟨S3, .f32⟩
  | .hbm, ⟨59, _⟩ => ⟨S1x3x1x1, .f32⟩
  | .hbm, ⟨60, _⟩ => ⟨S32x3x52x52, .f32⟩
  | .hbm, ⟨61, _⟩ => ⟨S32x3x52x52, .f32⟩
  | .hbm, ⟨62, _⟩ => ⟨S32x3x52x52, .f32⟩
  | .hbm, ⟨63, _⟩ => ⟨S32x3x52x52, .f32⟩
  | .hbm, ⟨64, _⟩ => ⟨S32x3x52x52, .f32⟩
  | .hbm, ⟨65, _⟩ => ⟨S32x3x52x52, .f32⟩
  | .hbm, ⟨66, _⟩ => ⟨S32x3x52x52, .f32⟩
  | .hbm, ⟨67, _⟩ => ⟨S32x3x52x52, .f32⟩
  | .hbm, ⟨68, _⟩ => ⟨S32x3x52x52, .f32⟩
  | .hbm, ⟨69, _⟩ => ⟨S32x3x52x52, .f32⟩
  | .hbm, ⟨70, _⟩ => ⟨S32x3x52x52x1, .f32⟩
  | .hbm, ⟨71, _⟩ => ⟨S32x3x52x52x1, .f32⟩
  | .hbm, ⟨72, _⟩ => ⟨S32x3x52x52x1, .f32⟩
  | .hbm, ⟨73, _⟩ => ⟨S32x3x52x52x1, .f32⟩
  | .hbm, ⟨74, _⟩ => ⟨S32x3x52x52x4, .f32⟩
  | .hbm, ⟨75, _⟩ => ⟨S32x8112x4, .f32⟩
  | .hbm, ⟨76, _⟩ => ⟨S_, .f32⟩
  | .hbm, ⟨77, _⟩ => ⟨S32x8112x4, .f32⟩
  | .hbm, ⟨78, _⟩ => ⟨S32x8112x4, .f32⟩
  | .hbm, ⟨79, _⟩ => ⟨S32x8112x1, .f32⟩
  | .hbm, ⟨80, _⟩ => ⟨S32x8112x80, .f32⟩
  | .hbm, ⟨81, _⟩ => ⟨S32x8112x85, .f32⟩
  | _, _ => ⟨S32x255x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_cst_7 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_8 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_9 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩

abbrev nD : Nat := 1
abbrev τ : Topo := Topo.v7x

variable {F : FTy → Type} [FloatOps F]
-- ==== Proof.Rings.lean ====
/-
  The ring of copies out with three slots, each waited three points after it started: what is ahead of a point, behind it
  and in flight, opened at a point and closed again after it. (The library spells this family for two slots.)
-/
module

public import Idealize.ShloMosaic.Lib.Ring
public import Idealize.ShloMosaic.Lib.Ring.WriteBehind
public import Idealize.ShloMosaic.Lib.Tactic

@[expose] public section

noncomputable section

namespace Cert.Rings

open Idealize.ShloMosaic Idealize.ShloMosaic.Ring
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {M : Type _} [URA M] {NB : ℕ} [NeZero NB]
variable (free : Fin 3 → sProp M) (infl : Fin 3 → Fin NB → sProp M) (ahead behind : Fin NB → sProp M)

/-- Nothing beside `P` is `P`. -/
private theorem sepEmp (P : sProp M) : BI.sep P BI.emp = P := BI.equiv_iff.mp BI.sep_emp
/-- `P` beside nothing is `P`. -/
private theorem empSep (P : sProp M) : iprop(BI.emp ∗ P) = P := BI.equiv_iff.mp BI.emp_sep

/-- Before point `t`, the slot the point refills carries the copy of batch `t - 3` (from point 3 on); -/
theorem role0_infl (t : ℕ) (h : 3 ≤ t) : roleB 3 free infl t 0 = infl (sl 3 t) (bk NB (t - 3)) :=
  roleB_of_infl 3 free infl t 0 ⟨by simpa using h, by simp⟩
/-- on the first three points it is free. -/
theorem role0_free (t : ℕ) (h : t < 3) : roleB 3 free infl t 0 = free (sl 3 t) :=
  roleB_of_free 3 free infl t 0 (by simp; omega)
/-- The other two slots ride through a point: each is one role nearer after it; -/
theorem role_ride (t : ℕ) (j k : Fin 3) (e : k.val = j.val + 1) : roleB 3 free infl (t + 1) j = roleB 3 free infl t k := by
  unfold roleB
  rw [show t + 1 + j.val = t + k.val by omega]
  by_cases h : 3 ≤ t + k.val
  · rw [if_pos ⟨h, by omega⟩, if_pos ⟨h, by omega⟩]
  · rw [if_neg (fun q => h q.1), if_neg (fun q => h q.1)]
/-- the slot just refilled is the farthest. -/
theorem role_new (t : ℕ) : roleB 3 free infl (t + 1) 2 = infl (sl 3 t) (bk NB t) := by
  rw [roleB_of_infl 3 free infl (t + 1) 2 ⟨by simp, by simp⟩, Fin.val_two, show t + 1 + 2 = t + 3 from rfl, sl_add, Nat.add_sub_cancel]

/-- The ring before point `t`: batch `t`'s place in the result apart, the three slots by role. -/
theorem here (t : ℕ) (ht : t < NB) :
    AtB 3 free infl ahead behind t
      = iprop((ahead (bk NB t) ∗ bigSep (aheadSet (t + 1)) ahead) ∗ bigSep (behindSet 3 t) behind
          ∗ roleB 3 free infl t 0 ∗ roleB 3 free infl t 1 ∗ roleB 3 free infl t 2) := by
  unfold AtB
  rw [aheadSet_open t ht, bigSep_insert (bk_not_mem_aheadSet_succ t ht), bigSep_fin3]
  rfl

/-- The ring after point `t ≥ 3`: batch `t - 3` has landed, batch `t` is in flight. -/
theorem next (t : ℕ) (h3 : 3 ≤ t) (ht : t < NB) :
    AtB 3 free infl ahead behind (t + 1)
      = iprop(bigSep (aheadSet (t + 1)) ahead ∗ (behind (bk NB (t - 3)) ∗ bigSep (behindSet 3 t) behind)
          ∗ roleB 3 free infl t 1 ∗ roleB 3 free infl t 2 ∗ infl (sl 3 t) (bk NB t)) := by
  unfold AtB
  rw [behindSet_close 3 t h3 ht, bigSep_insert (bk_not_mem_behindSet 3 t h3 ht), bigSep_fin3,
    role_ride free infl t 0 1 rfl, role_ride free infl t 1 2 rfl, role_new]
  rfl

/-- The ring after one of the first three points: nothing has landed yet. -/
theorem next_boot (t : ℕ) (h3 : t < 3) :
    AtB 3 free infl ahead behind (t + 1)
      = iprop(bigSep (aheadSet (t + 1)) ahead ∗ bigSep (behindSet 3 t) behind
          ∗ roleB 3 free infl t 1 ∗ roleB 3 free infl t 2 ∗ infl (sl 3 t) (bk NB t)) := by
  unfold AtB
  rw [behindSet_boot 3 (t + 1) (by omega), behindSet_boot 3 t (by omega), bigSep_fin3,
    role_ride free infl t 0 1 rfl, role_ride free infl t 1 2 rfl, role_new]

/-- Before the last point all three slots are in flight, with the three batches before it. -/
theorem role1_infl (t : ℕ) (h : 2 ≤ t) : roleB 3 free infl t 1 = infl (sl 3 (t + 1)) (bk NB (t - 2)) := by
  rw [roleB_of_infl 3 free infl t 1 ⟨by simp; omega, by simp⟩, Fin.val_one, show t + 1 - 3 = t - 2 by omega]
/-- The last of the three slots likewise carries the batch before. -/
theorem role2_infl (t : ℕ) (h : 1 ≤ t) : roleB 3 free infl t 2 = infl (sl 3 (t + 2)) (bk NB (t - 1)) := by
  rw [roleB_of_infl 3 free infl t 2 ⟨by simp; omega, by simp⟩, Fin.val_two, show t + 2 - 3 = t - 1 by omega]

/-- After the last point and its three waits: the last four batches landed with the rest, every slot free. -/
theorem drained (t : ℕ) (h3 : 3 ≤ t) (ht : t + 1 = NB) :
    AtBEnd free behind
      = iprop((behind (bk NB (t - 3)) ∗ behind (bk NB (t - 2)) ∗ behind (bk NB (t - 1)) ∗ behind (bk NB t) ∗ bigSep (behindSet 3 t) behind)
          ∗ free 0 ∗ free 1 ∗ free 2) := by
  have b0 := bk_val (NB := NB) (show t < NB by omega)
  have b1 := bk_val (NB := NB) (show t - 1 < NB by omega)
  have b2 := bk_val (NB := NB) (show t - 2 < NB by omega)
  have b3 := bk_val (NB := NB) (show t - 3 < NB by omega)
  have e : (Finset.univ : Finset (Fin NB))
      = insert (bk NB (t - 3)) (insert (bk NB (t - 2)) (insert (bk NB (t - 1)) (insert (bk NB t) (behindSet 3 t)))) := by
    ext u
    simp only [Finset.mem_univ, Finset.mem_insert, mem_behindSet, true_iff, Fin.ext_iff, b0, b1, b2, b3]
    have := u.isLt; omega
  have n3 : bk NB (t - 3) ∉ insert (bk NB (t - 2)) (insert (bk NB (t - 1)) (insert (bk NB t) (behindSet (NB := NB) 3 t))) := by
    simp only [Finset.mem_insert, mem_behindSet, Fin.ext_iff, b0, b1, b2, b3]; omega
  have n2 : bk NB (t - 2) ∉ insert (bk NB (t - 1)) (insert (bk NB t) (behindSet (NB := NB) 3 t)) := by
    simp only [Finset.mem_insert, mem_behindSet, Fin.ext_iff, b0, b1, b2]; omega
  have n1 : bk NB (t - 1) ∉ insert (bk NB t) (behindSet (NB := NB) 3 t) := by
    simp only [Finset.mem_insert, mem_behindSet, Fin.ext_iff, b0, b1]; omega
  have n0 : bk NB t ∉ behindSet (NB := NB) 3 t := by rw [mem_behindSet, b0]; omega
  unfold AtBEnd
  rw [e, bigSep_insert n3, bigSep_insert n2, bigSep_insert n1, bigSep_insert n0, bigSep_fin3]
  rfl

end Cert.Rings

end
-- ==== Proof.Ideal.Names.lean ====
/-
  The kernel's transfers name rows of its two HBM arrays, slots of its two scratch rings and the rings' DMA cells by
  offsets computed from the grid point. Here each gets one name: `rowI b`, `rowO b` (batch `b` of the input and of the
  result), `slotI s`, `slotO s` (slot `s` of the input and of the output ring), `cellI s`, `cellO s` (its DMA cell); and
  every slice the body takes is stated equal to one of them.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The names -/

/-- The input in HBM. -/
abbrev xM : Memref sig .tc .hbm S32x255x2704 .f32 := Memref.whole main_v0
/-- The result in HBM. -/
abbrev oM : Memref sig .tc .hbm S32x8112x85 .f32 := Memref.whole main_v1
/-- The input ring. -/
abbrev inM : Memref sig .tc .vmem S3x255x2704 .f32 := Memref.whole cc0_scratch0
/-- The output ring. -/
abbrev outM : Memref sig .tc .vmem S3x8112x85 .f32 := Memref.whole cc0_scratch1

/-- The start of index `k` of a leading axis of length one block each. -/
abbrev at3 (k : ℕ) : Fin 3 → ℕ := ![k, 0, 0]
/-- The start of cell `k` of a ring's semaphores. -/
abbrev at1 (k : ℕ) : Fin 1 → ℕ := ![k]

/-- Batch `b` lies inside the input. -/
theorem xRow_inb (b : Fin 32) : ∀ a, at3 b.val a + S1x255x2704.size a ≤ S32x255x2704.size a := by
  have := b.isLt; intro a; fin_cases a
  · show b.val + 1 ≤ 32; omega
  · show 0 + 255 ≤ 255; omega
  · show 0 + 2704 ≤ 2704; omega
/-- Batch `b` lies inside the result. -/
theorem oRow_inb (b : Fin 32) : ∀ a, at3 b.val a + S1x8112x85.size a ≤ S32x8112x85.size a := by
  have := b.isLt; intro a; fin_cases a
  · show b.val + 1 ≤ 32; omega
  · show 0 + 8112 ≤ 8112; omega
  · show 0 + 85 ≤ 85; omega
/-- Slot `s` lies inside the input ring. -/
theorem xSlot_inb (s : Fin 3) : ∀ a, at3 s.val a + S1x255x2704.size a ≤ S3x255x2704.size a := by
  have := s.isLt; intro a; fin_cases a
  · show s.val + 1 ≤ 3; omega
  · show 0 + 255 ≤ 255; omega
  · show 0 + 2704 ≤ 2704; omega
/-- Slot `s` lies inside the output ring. -/
theorem oSlot_inb (s : Fin 3) : ∀ a, at3 s.val a + S1x8112x85.size a ≤ S3x8112x85.size a := by
  have := s.isLt; intro a; fin_cases a
  · show s.val + 1 ≤ 3; omega
  · show 0 + 8112 ≤ 8112; omega
  · show 0 + 85 ≤ 85; omega
/-- Cell `s` lies inside a ring's semaphores. -/
theorem cell_inb (s : Fin 3) : ∀ a, at1 s.val a + S1.size a ≤ S3.size a := by
  have := s.isLt; intro a; fin_cases a; show s.val + 1 ≤ 3; omega

/-- The rectangle of batch `b` of the input. -/
abbrev xRowR (b : Fin 32) : Rect S32x255x2704 := Rect.unit (s := S32x255x2704) (at3 b.val) S1x255x2704.size (xRow_inb b)
/-- The rectangle of batch `b` of the result. -/
abbrev oRowR (b : Fin 32) : Rect S32x8112x85 := Rect.unit (s := S32x8112x85) (at3 b.val) S1x8112x85.size (oRow_inb b)
/-- The rectangle of slot `s` of the input ring. -/
abbrev xSlotR (s : Fin 3) : Rect S3x255x2704 := Rect.unit (s := S3x255x2704) (at3 s.val) S1x255x2704.size (xSlot_inb s)
/-- The rectangle of slot `s` of the output ring. -/
abbrev oSlotR (s : Fin 3) : Rect S3x8112x85 := Rect.unit (s := S3x8112x85) (at3 s.val) S1x8112x85.size (oSlot_inb s)

/-- Batch `b` of the input. -/
def rowI (b : Fin 32) : Memref sig .tc .hbm S255x2704 .f32 :=
  (xM.slice (xRowR b) (fun _ => rfl)).squeeze S255x2704 squeezes_S1x255x2704_S255x2704
/-- Batch `b` of the result. -/
def rowO (b : Fin 32) : Memref sig .tc .hbm S8112x85 .f32 :=
  (oM.slice (oRowR b) (fun _ => rfl)).squeeze S8112x85 squeezes_S1x8112x85_S8112x85
/-- Slot `s` of the input ring. -/
def slotI (s : Fin 3) : Memref sig .tc .vmem S255x2704 .f32 :=
  (inM.slice (xSlotR s) (fun _ => rfl)).squeeze S255x2704 squeezes_S1x255x2704_S255x2704
/-- Slot `s` of the output ring. -/
def slotO (s : Fin 3) : Memref sig .tc .vmem S8112x85 .f32 :=
  (outM.slice (oSlotR s) (fun _ => rfl)).squeeze S8112x85 squeezes_S1x8112x85_S8112x85
/-- The cell slot `s` of the input ring completes on. -/
def cellI (s : Fin 3) : DmaSems sig S_ := (cc0_scratch2.slice (Rect.unit (s := S3) (at1 s.val) S1.size (cell_inb s))).squeeze S_ squeezes_S1_S_
/-- The cell slot `s` of the output ring completes on. -/
def cellO (s : Fin 3) : DmaSems sig S_ := (cc0_scratch3.slice (Rect.unit (s := S3) (at1 s.val) S1.size (cell_inb s))).squeeze S_ squeezes_S1_S_

/-! ## A slice at an equal offset is the named one -/

/-- A semaphore cell of copies in, at an offset equal to `s`, is cell `s`. -/
theorem cellI_congr {off : Fin 1 → ℕ} {s : Fin 3} (e : off = at1 s.val) (hh) :
    (cc0_scratch2.slice (Rect.unit (s := S3) off S1.size hh)).squeeze S_ squeezes_S1_S_ = cellI s :=
  congrArg (fun A : DmaSems sig S1 => A.squeeze S_ squeezes_S1_S_) (SemArray.slice_unit_congr _ e _ _)
/-- A semaphore cell of copies out, at an offset equal to `s`, is cell `s`. -/
theorem cellO_congr {off : Fin 1 → ℕ} {s : Fin 3} (e : off = at1 s.val) (hh) :
    (cc0_scratch3.slice (Rect.unit (s := S3) off S1.size hh)).squeeze S_ squeezes_S1_S_ = cellO s :=
  congrArg (fun A : DmaSems sig S1 => A.squeeze S_ squeezes_S1_S_) (SemArray.slice_unit_congr _ e _ _)
/-- A slice of the input ring at an offset equal to `s` is slot `s`. -/
theorem slotI_congr {off : Fin 3 → ℕ} {s : Fin 3} (e : off = at3 s.val) (hh hs) :
    (inM.slice (Rect.unit (s := S3x255x2704) off S1x255x2704.size hh) hs).squeeze S255x2704 squeezes_S1x255x2704_S255x2704 = slotI s :=
  congrArg (fun M : Memref sig .tc .vmem S1x255x2704 .f32 => M.squeeze S255x2704 squeezes_S1x255x2704_S255x2704) (Memref.slice_unit_congr _ e _ _ _ _)
/-- A slice of the output ring at an offset equal to `s` is slot `s`. -/
theorem slotO_congr {off : Fin 3 → ℕ} {s : Fin 3} (e : off = at3 s.val) (hh hs) :
    (outM.slice (Rect.unit (s := S3x8112x85) off S1x8112x85.size hh) hs).squeeze S8112x85 squeezes_S1x8112x85_S8112x85 = slotO s :=
  congrArg (fun M : Memref sig .tc .vmem S1x8112x85 .f32 => M.squeeze S8112x85 squeezes_S1x8112x85_S8112x85) (Memref.slice_unit_congr _ e _ _ _ _)
/-- A slice of the input at an offset equal to `b` is batch `b`. -/
theorem rowI_congr {off : Fin 3 → ℕ} {b : Fin 32} (e : off = at3 b.val) (hh hs) :
    (xM.slice (Rect.unit (s := S32x255x2704) off S1x255x2704.size hh) hs).squeeze S255x2704 squeezes_S1x255x2704_S255x2704 = rowI b :=
  congrArg (fun M : Memref sig .tc .hbm S1x255x2704 .f32 => M.squeeze S255x2704 squeezes_S1x255x2704_S255x2704) (Memref.slice_unit_congr _ e _ _ _ _)
/-- A slice of the result at an offset equal to `b` is batch `b`. -/
theorem rowO_congr {off : Fin 3 → ℕ} {b : Fin 32} (e : off = at3 b.val) (hh hs) :
    (oM.slice (Rect.unit (s := S32x8112x85) off S1x8112x85.size hh) hs).squeeze S8112x85 squeezes_S1x8112x85_S8112x85 = rowO b :=
  congrArg (fun M : Memref sig .tc .hbm S1x8112x85 .f32 => M.squeeze S8112x85 squeezes_S1x8112x85_S8112x85) (Memref.slice_unit_congr _ e _ _ _ _)

/-! ## The body's conditions, by the grid point -/

/-- The first conditional is taken at point 0 alone. -/
theorem cond1_iff : ∀ i : grid0.Coords,
    Scalar.cmpi .ne (Scalar.extui (Scalar.cmpi .eq (BitVec.ofNat 32 (i 0).val) 0#32)) 0#32 = 1#1 ↔ (i 0).val = 0 := by decide +kernel
/-- The last conditional is taken at point 31 alone. -/
theorem cond4_iff : ∀ i : grid0.Coords,
    Scalar.cmpi .ne (Scalar.extui (Scalar.cmpi .eq (BitVec.ofNat 32 (i 0).val) 31#32)) 0#32 = 1#1 ↔ (i 0).val = 31 := by decide +kernel
/-- A prefetch is made from point 1 on, while the batch two ahead exists. -/
theorem cond2_iff : ∀ i : grid0.Coords, k0_cond2 i = 1#1 ↔ 1 ≤ (i 0).val ∧ (i 0).val + 2 < 32 := by decide +kernel
/-- A copy out is awaited from point 3 on. -/
theorem cond3_iff : ∀ i : grid0.Coords, k0_cond3 i = 1#1 ↔ 3 ≤ (i 0).val := by decide +kernel
/-- The copy out that is awaited is that of the batch three points before. -/
theorem off5_eq : ∀ i : grid0.Coords, k0_cond3 i = 1#1 → k0_off5 i = at3 ((i 0).val - 3) := by decide +kernel

/-! ## The slices the body takes -/

section Canon
variable (i : grid0.Coords)

/-- There are 32 points. -/
private theorem lt32 (i : grid0.Coords) : (i 0).val < 32 := (i 0).isLt

@[sl_canon] theorem semI0 (hh) : (cc0_scratch2.slice (Rect.unit (s := S3) ![0] S1.size hh)).squeeze S_ squeezes_S1_S_ = cellI 0 := cellI_congr (by decide) _
@[sl_canon] theorem semI1 (hh) : (cc0_scratch2.slice (Rect.unit (s := S3) ![1] S1.size hh)).squeeze S_ squeezes_S1_S_ = cellI 1 := cellI_congr (by decide) _
@[sl_canon] theorem semI2 (hh) : (cc0_scratch2.slice (Rect.unit (s := S3) ![2] S1.size hh)).squeeze S_ squeezes_S1_S_ = cellI 2 := cellI_congr (by decide) _
@[sl_canon] theorem semO0 (hh) : (cc0_scratch3.slice (Rect.unit (s := S3) ![0] S1.size hh)).squeeze S_ squeezes_S1_S_ = cellO 0 := cellO_congr (by decide) _
@[sl_canon] theorem semO1 (hh) : (cc0_scratch3.slice (Rect.unit (s := S3) ![1] S1.size hh)).squeeze S_ squeezes_S1_S_ = cellO 1 := cellO_congr (by decide) _
@[sl_canon] theorem semO2 (hh) : (cc0_scratch3.slice (Rect.unit (s := S3) ![2] S1.size hh)).squeeze S_ squeezes_S1_S_ = cellO 2 := cellO_congr (by decide) _
@[sl_canon] theorem slI0 (hh hs) : (inM.slice (Rect.unit (s := S3x255x2704) ![0, 0, 0] S1x255x2704.size hh) hs).squeeze S255x2704 squeezes_S1x255x2704_S255x2704 = slotI 0 := slotI_congr (by decide) _ _
@[sl_canon] theorem slI1 (hh hs) : (inM.slice (Rect.unit (s := S3x255x2704) ![1, 0, 0] S1x255x2704.size hh) hs).squeeze S255x2704 squeezes_S1x255x2704_S255x2704 = slotI 1 := slotI_congr (by decide) _ _
@[sl_canon] theorem slI2 (hh hs) : (inM.slice (Rect.unit (s := S3x255x2704) ![2, 0, 0] S1x255x2704.size hh) hs).squeeze S255x2704 squeezes_S1x255x2704_S255x2704 = slotI 2 := slotI_congr (by decide) _ _
@[sl_canon] theorem slO0 (hh hs) : (outM.slice (Rect.unit (s := S3x8112x85) ![0, 0, 0] S1x8112x85.size hh) hs).squeeze S8112x85 squeezes_S1x8112x85_S8112x85 = slotO 0 := slotO_congr (by decide) _ _
@[sl_canon] theorem slO1 (hh hs) : (outM.slice (Rect.unit (s := S3x8112x85) ![1, 0, 0] S1x8112x85.size hh) hs).squeeze S8112x85 squeezes_S1x8112x85_S8112x85 = slotO 1 := slotO_congr (by decide) _ _
@[sl_canon] theorem slO2 (hh hs) : (outM.slice (Rect.unit (s := S3x8112x85) ![2, 0, 0] S1x8112x85.size hh) hs).squeeze S8112x85 squeezes_S1x8112x85_S8112x85 = slotO 2 := slotO_congr (by decide) _ _
@[sl_canon] theorem rwI0 (hh hs) : (xM.slice (Rect.unit (s := S32x255x2704) ![0, 0, 0] S1x255x2704.size hh) hs).squeeze S255x2704 squeezes_S1x255x2704_S255x2704 = rowI 0 := rowI_congr (by decide) _ _
@[sl_canon] theorem rwI1 (hh hs) : (xM.slice (Rect.unit (s := S32x255x2704) ![1, 0, 0] S1x255x2704.size hh) hs).squeeze S255x2704 squeezes_S1x255x2704_S255x2704 = rowI 1 := rowI_congr (by decide) _ _
@[sl_canon] theorem rwI2 (hh hs) : (xM.slice (Rect.unit (s := S32x255x2704) ![2, 0, 0] S1x255x2704.size hh) hs).squeeze S255x2704 squeezes_S1x255x2704_S255x2704 = rowI 2 := rowI_congr (by decide) _ _
@[sl_canon] theorem rwO29 (hh hs) : (oM.slice (Rect.unit (s := S32x8112x85) ![29, 0, 0] S1x8112x85.size hh) hs).squeeze S8112x85 squeezes_S1x8112x85_S8112x85 = rowO 29 := rowO_congr (by decide) _ _
@[sl_canon] theorem rwO30 (hh hs) : (oM.slice (Rect.unit (s := S32x8112x85) ![30, 0, 0] S1x8112x85.size hh) hs).squeeze S8112x85 squeezes_S1x8112x85_S8112x85 = rowO 30 := rowO_congr (by decide) _ _
@[sl_canon] theorem rwO31 (hh hs) : (oM.slice (Rect.unit (s := S32x8112x85) ![31, 0, 0] S1x8112x85.size hh) hs).squeeze S8112x85 squeezes_S1x8112x85_S8112x85 = rowO 31 := rowO_congr (by decide) _ _

@[sl_canon] theorem sem_off1 (hh) : (cc0_scratch2.slice (Rect.unit (s := S3) (k0_off1 i) S1.size hh)).squeeze S_ squeezes_S1_S_ = cellI (Ring.sl 3 ((i 0).val + 2)) := cellI_congr (k0_off1_eq i) _
@[sl_canon] theorem slot_off2 (hh hs) : (inM.slice (Rect.unit (s := S3x255x2704) (k0_off2 i) S1x255x2704.size hh) hs).squeeze S255x2704 squeezes_S1x255x2704_S255x2704 = slotI (Ring.sl 3 ((i 0).val + 2)) := slotI_congr (k0_off2_eq i) _ _
@[sl_canon] theorem sem_off4 (hh) : (cc0_scratch3.slice (Rect.unit (s := S3) (k0_off4 i) S1.size hh)).squeeze S_ squeezes_S1_S_ = cellO (Ring.sl 3 (i 0).val) := cellO_congr (k0_off4_eq i) _
@[sl_canon] theorem slot_off6 (hh hs) : (outM.slice (Rect.unit (s := S3x8112x85) (k0_off6 i) S1x8112x85.size hh) hs).squeeze S8112x85 squeezes_S1x8112x85_S8112x85 = slotO (Ring.sl 3 (i 0).val) := slotO_congr (k0_off6_eq i) _ _
@[sl_canon] theorem semI_off7 (hh) : (cc0_scratch2.slice (Rect.unit (s := S3) (k0_off7 i) S1.size hh)).squeeze S_ squeezes_S1_S_ = cellI (Ring.sl 3 (i 0).val) := cellI_congr (k0_off7_eq i) _
@[sl_canon] theorem semO_off7 (hh) : (cc0_scratch3.slice (Rect.unit (s := S3) (k0_off7 i) S1.size hh)).squeeze S_ squeezes_S1_S_ = cellO (Ring.sl 3 (i 0).val) := cellO_congr (k0_off7_eq i) _
@[sl_canon] theorem slot_off8 (hh hs) : (inM.slice (Rect.unit (s := S3x255x2704) (k0_off8 i) S1x255x2704.size hh) hs).squeeze S255x2704 squeezes_S1x255x2704_S255x2704 = slotI (Ring.sl 3 (i 0).val) := slotI_congr (k0_off8_eq i) _ _
@[sl_canon] theorem slot_off13 (hh hs) : (outM.slice (Rect.unit (s := S3x8112x85) (k0_off13 i) S1x8112x85.size hh) hs).squeeze S8112x85 squeezes_S1x8112x85_S8112x85 = slotO (Ring.sl 3 (i 0).val) := slotO_congr (k0_off13_eq i) _ _
@[sl_canon] theorem row_off3 (h : k0_cond2 i = 1#1) (hh hs) : (xM.slice (Rect.unit (s := S32x255x2704) (k0_off3 i) S1x255x2704.size hh) hs).squeeze S255x2704 squeezes_S1x255x2704_S255x2704 = rowI (Ring.bk 32 ((i 0).val + 2)) :=
  rowI_congr (by rw [Ring.bk_val ((cond2_iff i).mp h).2]; exact k0_off3_eq i) _ _
@[sl_canon] theorem row_off5 (h : k0_cond3 i = 1#1) (hh hs) : (oM.slice (Rect.unit (s := S32x8112x85) (k0_off5 i) S1x8112x85.size hh) hs).squeeze S8112x85 squeezes_S1x8112x85_S8112x85 = rowO (Ring.bk 32 ((i 0).val - 3)) :=
  rowO_congr (by rw [Ring.bk_val (by have := lt32 i; omega)]; exact off5_eq i h) _ _
@[sl_canon] theorem row_off9 (hh hs) : (xM.slice (Rect.unit (s := S32x255x2704) (k0_off9 i) S1x255x2704.size hh) hs).squeeze S255x2704 squeezes_S1x255x2704_S255x2704 = rowI (Ring.bk 32 (i 0).val) :=
  rowI_congr (by rw [Ring.bk_val (lt32 i)]; exact k0_off9_eq i) _ _
@[sl_canon] theorem row_off12 (hh hs) : (oM.slice (Rect.unit (s := S32x8112x85) (k0_off12 i) S1x8112x85.size hh) hs).squeeze S8112x85 squeezes_S1x8112x85_S8112x85 = rowO (Ring.bk 32 (i 0).val) :=
  rowO_congr (by rw [Ring.bk_val (lt32 i)]; exact k0_off12_eq i) _ _

end Canon

/-! ## The accesses of the compute step lie inside the slots held -/

/-- Slot `s` of the input ring covers its rectangle. -/
theorem slotI_set (s : Fin 3) : (slotI s).view.set = (xSlotR s).set := (View.set_reshape _ _).trans (View.set_slice_whole _ _)
/-- Slot `s` of the output ring covers its rectangle. -/
theorem slotO_set (s : Fin 3) : (slotO s).view.set = (oSlotR s).set := (View.set_reshape _ _).trans (View.set_slice_whole _ _)
/-- Batch `b` of the input covers its rectangle. -/
theorem rowI_set (b : Fin 32) : (rowI b).view.set = (xRowR b).set := (View.set_reshape _ _).trans (View.set_slice_whole _ _)
/-- Batch `b` of the result covers its rectangle. -/
theorem rowO_set (b : Fin 32) : (rowO b).view.set = (oRowR b).set := (View.set_reshape _ _).trans (View.set_slice_whole _ _)

/-- The compute step's load stays inside the slot held. -/
theorem accI_sub {off : Fin 3 → ℕ} {s : Fin 3} (e : off = at3 s.val) (hh) :
    (inM.access (Rect.unit (s := S3x255x2704) off S1x255x2704.size hh)).set ⊆ (slotI s).view.set := by
  subst e; rw [slotI_set]; exact (View.set_slice_whole _ _).le
/-- The compute step's store stays inside the slot held. -/
theorem accO_sub {off : Fin 3 → ℕ} {s : Fin 3} (e : off = at3 s.val) (hh) :
    (outM.access (Rect.unit (s := S3x8112x85) off S1x8112x85.size hh)).set ⊆ (slotO s).view.set := by
  subst e; rw [slotO_set]; exact (View.set_slice_whole _ _).le

end Cert.KernelIdeal.Hand

end
-- ==== Proof.Ideal.Body.lean ====
module

public import proofs.«01_k».proof.Proof.Ideal.Names
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Pieces
variable (c : Dev nD)

/-- Contents of the input ring's buffer. -/
abbrev IBuf (s : Fin 3) : Type := Buf (Elt F) ((slotI s).view.loc (c : Thread nD τ))
/-- Contents of the output ring's buffer. -/
abbrev OBuf (s : Fin 3) : Type := Buf (Elt F) ((slotO s).view.loc (c : Thread nD τ))
/-- Contents of the input. -/
abbrev XBuf : Type := Buf (Elt F) (xM.view.loc (c : Thread nD τ))
/-- Contents of the result. -/
abbrev YBuf : Type := Buf (Elt F) (oM.view.loc (c : Thread nD τ))

/-- The semaphore of copies into slot `s` is at zero. -/
abbrev cellIP (s : Fin 3) : sProp 𝕄 := semVal ((c : Thread nD τ), SemLoc.dma (cellI s).sem) 0
/-- The semaphore of copies out of slot `s` is at zero. -/
abbrev cellOP (s : Fin 3) : sProp 𝕄 := semVal ((c : Thread nD τ), SemLoc.dma (cellO s).sem) 0
/-- Slot `s` of the input ring holds `f`. -/
abbrev slotIP (s : Fin 3) (f : IBuf (F := F) c s) : sProp 𝕄 := (slotI s).view.loc (c : Thread nD τ) ↦[(slotI s).view.set]{fullShare} f
/-- Slot `s` of the output ring holds `f`. -/
abbrev slotOP (s : Fin 3) (f : OBuf (F := F) c s) : sProp 𝕄 := (slotO s).view.loc (c : Thread nD τ) ↦[(slotO s).view.set]{fullShare} f
/-- Batch `b` of the input holds `X`. -/
abbrev rowIP (X : XBuf (F := F) c) (b : Fin 32) : sProp 𝕄 := (rowI b).view.loc (c : Thread nD τ) ↦[(rowI b).view.set]{fullShare} X
/-- Batch `b` of the result holds `Y`. -/
abbrev rowOP (Y : YBuf (F := F) c) (b : Fin 32) : sProp 𝕄 := (rowO b).view.loc (c : Thread nD τ) ↦[(rowO b).view.set]{fullShare} Y

/-- The input ring once batch `b` has landed in slot `s`. -/
abbrev landI (X : XBuf (F := F) c) (s : Fin 3) (b : Fin 32) (f : IBuf (F := F) c s) : IBuf (F := F) c s :=
  (slotI s).view.writes (Elt F) f [⟨Rect.whole S255x2704, ReadAs.same.apply ((rowI b).view.read (Elt F) X)⟩]
/-- The result once slot `s` has landed in batch `b`. -/
abbrev landO (s : Fin 3) (b : Fin 32) (f : OBuf (F := F) c s) (Y : YBuf (F := F) c) : YBuf (F := F) c :=
  (rowO b).view.writes (Elt F) Y [⟨Rect.whole S8112x85, ReadAs.same.apply ((slotO s).view.read (Elt F) f)⟩]
/-- A copy of batch `b` into slot `s` is in flight. -/
abbrev flightI (X : XBuf (F := F) c) (s : Fin 3) (b : Fin 32) (f : IBuf (F := F) c s) : sProp 𝕄 :=
  Transfers.Flight (countersEmb (U := Pipeline.UD sig nD τ)) (c : Thread nD τ) (SemLoc.dma (cellI s).sem) ()
    ((slotI s).view.amount (SemLoc.dma (sig := sig) (cellI s).sem)) iprop(slotIP c s (landI c X s b f) ∗ rowIP c X b)
/-- A copy of slot `s` into batch `b` of the result is in flight. -/
abbrev flightO (s : Fin 3) (b : Fin 32) (f : OBuf (F := F) c s) (Y : YBuf (F := F) c) : sProp 𝕄 :=
  Transfers.Flight (countersEmb (U := Pipeline.UD sig nD τ)) (c : Thread nD τ) (SemLoc.dma (cellO s).sem) ()
    ((rowO b).view.amount (SemLoc.dma (sig := sig) (cellO s).sem)) iprop(rowOP c (landO c s b f Y) b ∗ slotOP c s f)
end Pieces

/-- What the body computes of one batch: the three anchors' decoded boxes, one after another. -/
def decode (x : FVec F S255x2704 .f32) : FVec F S8112x85 .f32 :=
  shapeCast S8112x85
    (k0_pay1
      (k0_pay9 x (iota .tc S8x2704 32 [0] iota_S8x2704_d0_w32)
        (k0_pay6 (iota .tc S8x2704 32 [0] iota_S8x2704_d0_w32) (iota .tc S8x2704 32 [1] iota_S8x2704_d1_w32) 52#32 k0_pay3 k0_pay4 k0_pay5 0#32)
        (k0_pay7 (iota .tc S8x2704 32 [0] iota_S8x2704_d0_w32)) 2#32)
      (k0_pay10 x (iota .tc S8x2704 32 [0] iota_S8x2704_d0_w32)
        (k0_pay6 (iota .tc S8x2704 32 [0] iota_S8x2704_d0_w32) (iota .tc S8x2704 32 [1] iota_S8x2704_d1_w32) 52#32 k0_pay3 k0_pay4 k0_pay5 0#32)
        (k0_pay7 (iota .tc S8x2704 32 [0] iota_S8x2704_d0_w32)) 2#32)
      (k0_pay11 x (iota .tc S8x2704 32 [0] iota_S8x2704_d0_w32)
        (k0_pay6 (iota .tc S8x2704 32 [0] iota_S8x2704_d0_w32) (iota .tc S8x2704 32 [1] iota_S8x2704_d1_w32) 52#32 k0_pay3 k0_pay4 k0_pay5 0#32)
        (k0_pay7 (iota .tc S8x2704 32 [0] iota_S8x2704_d0_w32)) 2#32)
      (k0_pay12 x))
    shapeCasts_S1x8112x85_S8112x85

/-- The block stored for batch `b` of an input holding `X`. -/
def payW (c : Dev nD) (X : XBuf (F := F) c) (b : Fin 32) : FVec F S8112x85 .f32 :=
  decode (ReadAs.same.apply ((rowI b).view.read (Elt F) X))

/-- A slot of the input ring, loaded after a copy has landed in it, reads the copy. -/
theorem load_landed (s : Fin 3) {off : Fin 3 → ℕ} (e : off = at3 s.val) (hh) (c : Dev nD) (f : IBuf (F := F) c s) (p : FVec F S255x2704 .f32) :
    k0_pay2 (inM.view.readAt (Elt F) (Rect.unit (s := S3x255x2704) off S1x255x2704.size hh).toLoadRect
      ((slotI s).view.writes (Elt F) f [⟨Rect.whole S255x2704, p⟩])) = p := by
  subst e
  exact (Memref.read_squeeze_slice inM (xSlotR s) (fun _ => rfl) squeezes_S1x255x2704_S255x2704 shapeCasts_S1x255x2704_S255x2704 _).symm.trans
    (View.read_writes_whole (slotI s).view f p)

/-- A slot of the output ring, read by its copy out after the store, reads the stored vector without its leading axis. -/
theorem read_stored (s : Fin 3) {off : Fin 3 → ℕ} (e : off = at3 s.val) (hh) (c : Dev nD) (g : OBuf (F := F) c s) (w : FVec F S1x8112x85 .f32) :
    (slotO s).view.read (Elt F) ((outM.access (Rect.unit (s := S3x8112x85) off S1x8112x85.size hh)).write (Elt F) g w Finset.univ)
      = shapeCast S8112x85 w shapeCasts_S1x8112x85_S8112x85 := by
  subst e
  exact (Memref.read_squeeze_slice outM (oSlotR s) (fun _ => rfl) squeezes_S1x8112x85_S8112x85 shapeCasts_S1x8112x85_S8112x85 _).trans
    (congrArg (fun v => shapeCast S8112x85 v shapeCasts_S1x8112x85_S8112x85) (View.read_write_univ (v := outM.access (oSlotR s)) g w))

/-- Batch `b` of the result once its copy out has landed over contents `A`. -/
abbrev rowDone (c : Dev nD) (X : XBuf (F := F) c) (A : YBuf (F := F) c) (b : Fin 32) : sProp 𝕄 :=
  (rowO b).view.loc (c : Thread nD τ) ↦[(rowO b).view.set]{fullShare} (rowO b).view.writes (Elt F) A [⟨Rect.whole S8112x85, payW c X b⟩]
/-- The copy of batch `b` out of slot `s` in flight. -/
abbrev outFlight (c : Dev nD) (X : XBuf (F := F) c) (A : YBuf (F := F) c) (s : Fin 3) (b : Fin 32) (g : OBuf (F := F) c s) : sProp 𝕄 :=
  Transfers.Flight (countersEmb (U := Pipeline.UD sig nD τ)) (c : Thread nD τ) (SemLoc.dma (cellO s).sem) ()
    ((rowO b).view.amount (SemLoc.dma (sig := sig) (cellO s).sem))
    iprop(rowDone c X A b ∗ slotOP c s g)

/-- The body at a grid point, over the kernel's own buffers. -/
abbrev bodyG (i : grid0.Coords) : Prog (TpuEff nD τ sig (Elt F) Λ₀ .tc) PUnit :=
  cc0__lambda_ i xM (Memref.isWhole_whole _) oM (Memref.isWhole_whole _) inM (Memref.isWhole_whole _) outM (Memref.isWhole_whole _) cc0_scratch2 cc0_scratch3

/-! At the two ends of the grid the slots and rows are literals. -/
section Ends
variable (i : grid0.Coords)
@[sl_canon] theorem sl_first (h : (i 0).val = 0) : Ring.sl 3 (i 0).val = 0 := by rw [h]; rfl
@[sl_canon] theorem bk_first (h : (i 0).val = 0) : Ring.bk 32 (i 0).val = 0 := by rw [h]; rfl
@[sl_canon] theorem sl_last (h : (i 0).val = 31) : Ring.sl 3 (i 0).val = 1 := by rw [h]; rfl
@[sl_canon] theorem bk_last (h : (i 0).val = 31) : Ring.bk 32 (i 0).val = 31 := by rw [h]; rfl
@[sl_canon] theorem bk_last3 (h : (i 0).val = 31) : Ring.bk 32 ((i 0).val - 3) = 28 := by rw [h]; rfl
end Ends

section Run
variable (c : Dev nD) (X : XBuf (F := F) c) (A : YBuf (F := F) c) (i : grid0.Coords)

set_option backward.isDefEq.respectTransparency.types false in
theorem run_steady (h3 : 3 ≤ (i 0).val) (h29 : (i 0).val + 2 < 32)
    (f0 : IBuf (F := F) c (Ring.sl 3 (i 0).val)) (f2 : IBuf (F := F) c (Ring.sl 3 ((i 0).val + 2)))
    (g0 : OBuf (F := F) c (Ring.sl 3 (i 0).val)) :
    iprop(rowIP c X (Ring.bk 32 ((i 0).val + 2)) ∗ cellIP c (Ring.sl 3 ((i 0).val + 2)) ∗ slotIP c (Ring.sl 3 ((i 0).val + 2)) f2
      ∗ flightI c X (Ring.sl 3 (i 0).val) (Ring.bk 32 (i 0).val) f0
      ∗ outFlight c X A (Ring.sl 3 (i 0).val) (Ring.bk 32 ((i 0).val - 3)) g0
      ∗ rowOP c A (Ring.bk 32 (i 0).val)
      ∗ (∃ W, owes (c : Thread nD τ) 0 W))
    ⊢ wp frame (wpE (defs₀ (F := F)) Variants.none (c : Thread nD τ) none) Set.univ (bodyG i)
      (fun _ => iprop(flightI c X (Ring.sl 3 ((i 0).val + 2)) (Ring.bk 32 ((i 0).val + 2)) f2
        ∗ rowIP c X (Ring.bk 32 (i 0).val) ∗ cellIP c (Ring.sl 3 (i 0).val) ∗ (∃ f, slotIP c (Ring.sl 3 (i 0).val) f)
        ∗ rowDone c X A (Ring.bk 32 ((i 0).val - 3))
        ∗ (∃ g, outFlight c X A (Ring.sl 3 (i 0).val) (Ring.bk 32 (i 0).val) g)
        ∗ (∃ W, owes (c : Thread nD τ) 0 W))) := by
  have hc1 : ¬ (Scalar.cmpi .ne (Scalar.extui (Scalar.cmpi .eq (BitVec.ofNat 32 (i 0).val) 0#32)) 0#32 = 1#1) := by rw [cond1_iff]; omega
  have hc2 : k0_cond2 i = 1#1 := (cond2_iff i).mpr ⟨by omega, h29⟩
  have hc3 : k0_cond3 i = 1#1 := (cond3_iff i).mpr h3
  have hc4 : ¬ (Scalar.cmpi .ne (Scalar.extui (Scalar.cmpi .eq (BitVec.ofNat 32 (i 0).val) 31#32)) 0#32 = 1#1) := by rw [cond4_iff]; omega
  have hI := accI_sub (s := Ring.sl 3 (i 0).val) (k0_off10_eq i) (k0_off10_inb i)
  have hO := accO_sub (s := Ring.sl 3 (i 0).val) (k0_off11_eq i) (k0_off11_inb i)
  iintro ⟨HX, HC, HS, HF, HG, HY, ⟨%W, HW⟩⟩
  unfold bodyG
  rw [cc0__lambda__eq_skeleton]; unfold cc0__lambda__skel
  rw [k0_part1_eq_skeleton]; unfold k0_part1_skel
  rw [k0_part2_eq_skeleton]; unfold k0_part2_skel
  rw [k0_part3_eq_skeleton]; unfold k0_part3_skel
  sl_exec
  have e : run_steady.sl.dma3 c X i g0 = payW c X (Ring.bk 32 (i 0).val) := by
    conv_lhs => unfold run_steady.sl.dma3 run_steady.sl.HG_src_w1
    rw [read_stored (Ring.sl 3 (i 0).val) (k0_off11_eq i),
      show k0_pay2 (run_steady.sl.v21 c X i) = _ from load_landed _ (k0_off10_eq i) _ c _ _]
    rfl
  rw [e]
  sl_step
  isplitl [HC]; · iexact HC
  isplitl [HF_src]; · iexact HF_src
  isplitl [HF]; · iexact HF
  isplitl [HF_dst]; · iexists _; iexact HF_dst
  isplitl [HG_dst]; · iexact HG_dst
  isplitl [HG]; · iexists _; iexact HG
  iexists _; iexact HW

set_option backward.isDefEq.respectTransparency.types false in
/-- The body at points 1 and 2: the copy of batch `n + 2` starts, batch `n` arrives, is decoded into a free slot and its copy out starts. -/
theorem run_boot (h1 : 1 ≤ (i 0).val) (h3 : (i 0).val < 3)
    (f0 : IBuf (F := F) c (Ring.sl 3 (i 0).val)) (f2 : IBuf (F := F) c (Ring.sl 3 ((i 0).val + 2))) (g0 : OBuf (F := F) c (Ring.sl 3 (i 0).val)) :
    iprop(rowIP c X (Ring.bk 32 ((i 0).val + 2)) ∗ cellIP c (Ring.sl 3 ((i 0).val + 2)) ∗ slotIP c (Ring.sl 3 ((i 0).val + 2)) f2
      ∗ flightI c X (Ring.sl 3 (i 0).val) (Ring.bk 32 (i 0).val) f0
      ∗ cellOP c (Ring.sl 3 (i 0).val) ∗ slotOP c (Ring.sl 3 (i 0).val) g0
      ∗ rowOP c A (Ring.bk 32 (i 0).val)
      ∗ (∃ W, owes (c : Thread nD τ) 0 W))
    ⊢ wp frame (wpE (defs₀ (F := F)) Variants.none (c : Thread nD τ) none) Set.univ (bodyG i)
      (fun _ => iprop(flightI c X (Ring.sl 3 ((i 0).val + 2)) (Ring.bk 32 ((i 0).val + 2)) f2
        ∗ rowIP c X (Ring.bk 32 (i 0).val) ∗ cellIP c (Ring.sl 3 (i 0).val) ∗ (∃ f, slotIP c (Ring.sl 3 (i 0).val) f)
        ∗ (∃ g, outFlight c X A (Ring.sl 3 (i 0).val) (Ring.bk 32 (i 0).val) g)
        ∗ (∃ W, owes (c : Thread nD τ) 0 W))) := by
  have hc1 : ¬ (Scalar.cmpi .ne (Scalar.extui (Scalar.cmpi .eq (BitVec.ofNat 32 (i 0).val) 0#32)) 0#32 = 1#1) := by rw [cond1_iff]; omega
  have hc2 : k0_cond2 i = 1#1 := by rw [cond2_iff]; omega
  have hc3 : ¬ k0_cond3 i = 1#1 := by rw [cond3_iff]; omega
  have hc4 : ¬ (Scalar.cmpi .ne (Scalar.extui (Scalar.cmpi .eq (BitVec.ofNat 32 (i 0).val) 31#32)) 0#32 = 1#1) := by rw [cond4_iff]; omega
  have hI := accI_sub (s := (Ring.sl 3 (i 0).val)) (k0_off10_eq i) (k0_off10_inb i)
  have hO := accO_sub (s := (Ring.sl 3 (i 0).val)) (k0_off11_eq i) (k0_off11_inb i)
  iintro ⟨HX, HC, HS, HF, HO, HG, HY, ⟨%W, HW⟩⟩
  unfold bodyG
  rw [cc0__lambda__eq_skeleton]; unfold cc0__lambda__skel
  rw [k0_part1_eq_skeleton]; unfold k0_part1_skel
  rw [k0_part2_eq_skeleton]; unfold k0_part2_skel
  rw [k0_part3_eq_skeleton]; unfold k0_part3_skel
  sl_exec
  have e : run_boot.sl.dma3 c X i g0 = payW c X (Ring.bk 32 (i 0).val) := by
    conv_lhs => unfold run_boot.sl.dma3 run_boot.sl.HG_w1
    rw [read_stored (Ring.sl 3 (i 0).val) (k0_off11_eq i),
      show k0_pay2 (run_boot.sl.v21 c X i) = _ from load_landed _ (k0_off10_eq i) _ c _ _]
    rfl
  rw [e]
  sl_step
  isplitl [HC]; · iexact HC
  isplitl [HF_src]; · iexact HF_src
  isplitl [HF]; · iexact HF
  isplitl [HF_dst]; · iexists _; iexact HF_dst
  isplitl [HO]; · iexists _; iexact HO
  iexists _; iexact HW

set_option backward.isDefEq.respectTransparency.types false in
/-- The body at point 30: no further copy starts; batch 27 has gone out, batch 30 arrives, is decoded and its copy out starts. -/
theorem run_tail (h : (i 0).val = 30)
    (f0 : IBuf (F := F) c (Ring.sl 3 (i 0).val)) (g0 : OBuf (F := F) c (Ring.sl 3 (i 0).val)) :
    iprop(flightI c X (Ring.sl 3 (i 0).val) (Ring.bk 32 (i 0).val) f0
      ∗ outFlight c X A (Ring.sl 3 (i 0).val) (Ring.bk 32 ((i 0).val - 3)) g0
      ∗ rowOP c A (Ring.bk 32 (i 0).val)
      ∗ (∃ W, owes (c : Thread nD τ) 0 W))
    ⊢ wp frame (wpE (defs₀ (F := F)) Variants.none (c : Thread nD τ) none) Set.univ (bodyG i)
      (fun _ => iprop(rowIP c X (Ring.bk 32 (i 0).val) ∗ cellIP c (Ring.sl 3 (i 0).val) ∗ (∃ f, slotIP c (Ring.sl 3 (i 0).val) f)
        ∗ rowDone c X A (Ring.bk 32 ((i 0).val - 3))
        ∗ (∃ g, outFlight c X A (Ring.sl 3 (i 0).val) (Ring.bk 32 (i 0).val) g)
        ∗ (∃ W, owes (c : Thread nD τ) 0 W))) := by
  have hc1 : ¬ (Scalar.cmpi .ne (Scalar.extui (Scalar.cmpi .eq (BitVec.ofNat 32 (i 0).val) 0#32)) 0#32 = 1#1) := by rw [cond1_iff]; omega
  have hc2 : ¬ k0_cond2 i = 1#1 := by rw [cond2_iff]; omega
  have hc3 : k0_cond3 i = 1#1 := by rw [cond3_iff]; omega
  have hc4 : ¬ (Scalar.cmpi .ne (Scalar.extui (Scalar.cmpi .eq (BitVec.ofNat 32 (i 0).val) 31#32)) 0#32 = 1#1) := by rw [cond4_iff]; omega
  have hI := accI_sub (s := (Ring.sl 3 (i 0).val)) (k0_off10_eq i) (k0_off10_inb i)
  have hO := accO_sub (s := (Ring.sl 3 (i 0).val)) (k0_off11_eq i) (k0_off11_inb i)
  iintro ⟨HF, HG, HY, ⟨%W, HW⟩⟩
  unfold bodyG
  rw [cc0__lambda__eq_skeleton]; unfold cc0__lambda__skel
  rw [k0_part1_eq_skeleton]; unfold k0_part1_skel
  rw [k0_part2_eq_skeleton]; unfold k0_part2_skel
  rw [k0_part3_eq_skeleton]; unfold k0_part3_skel
  sl_exec
  have e : run_tail.sl.dma3 c X i g0 = payW c X (Ring.bk 32 (i 0).val) := by
    conv_lhs => unfold run_tail.sl.dma3 run_tail.sl.HG_src_w1
    rw [read_stored (Ring.sl 3 (i 0).val) (k0_off11_eq i),
      show k0_pay2 (run_tail.sl.v21 c X i) = _ from load_landed _ (k0_off10_eq i) _ c _ _]
    rfl
  rw [e]
  sl_step
  isplitl [HF_src]; · iexact HF_src
  isplitl [HF]; · iexact HF
  isplitl [HF_dst]; · iexists _; iexact HF_dst
  isplitl [HG_dst]; · iexact HG_dst
  isplitl [HG]; · iexists _; iexact HG
  iexists _; iexact HW

set_option backward.isDefEq.respectTransparency.types false in
/-- The body at the first point: the copies of batches 0, 1 and 2 start, batch 0 arrives, is decoded and its copy out starts. -/
theorem run_first (h : (i 0).val = 0)
    (f0 : IBuf (F := F) c 0) (f1 : IBuf (F := F) c 1) (f2 : IBuf (F := F) c 2) (g0 : OBuf (F := F) c 0) :
    iprop((rowIP c X 0 ∗ cellIP c 0 ∗ slotIP c 0 f0) ∗ (rowIP c X 1 ∗ cellIP c 1 ∗ slotIP c 1 f1)
      ∗ (rowIP c X 2 ∗ cellIP c 2 ∗ slotIP c 2 f2)
      ∗ cellOP c 0 ∗ slotOP c 0 g0 ∗ rowOP c A 0
      ∗ (∃ W, owes (c : Thread nD τ) 0 W))
    ⊢ wp frame (wpE (defs₀ (F := F)) Variants.none (c : Thread nD τ) none) Set.univ (bodyG i)
      (fun _ => iprop(flightI c X 1 1 f1 ∗ flightI c X 2 2 f2
        ∗ rowIP c X 0 ∗ cellIP c 0 ∗ (∃ f, slotIP c 0 f)
        ∗ (∃ g, outFlight c X A 0 0 g)
        ∗ (∃ W, owes (c : Thread nD τ) 0 W))) := by
  have hc1 : (Scalar.cmpi .ne (Scalar.extui (Scalar.cmpi .eq (BitVec.ofNat 32 (i 0).val) 0#32)) 0#32 = 1#1) := by rw [cond1_iff]; omega
  have hc2 : ¬ k0_cond2 i = 1#1 := by rw [cond2_iff]; omega
  have hc3 : ¬ k0_cond3 i = 1#1 := by rw [cond3_iff]; omega
  have hc4 : ¬ (Scalar.cmpi .ne (Scalar.extui (Scalar.cmpi .eq (BitVec.ofNat 32 (i 0).val) 31#32)) 0#32 = 1#1) := by rw [cond4_iff]; omega
  have e10 : k0_off10 i = at3 (0 : Fin 3).val := by rw [k0_off10_eq, h]; rfl
  have e11 : k0_off11 i = at3 (0 : Fin 3).val := by rw [k0_off11_eq, h]; rfl
  have hI := accI_sub (s := 0) e10 (k0_off10_inb i)
  have hO := accO_sub (s := 0) e11 (k0_off11_inb i)
  iintro ⟨⟨HX0, HC0, HS0⟩, ⟨HX1, HC1, HS1⟩, ⟨HX2, HC2, HS2⟩, HO, HG, HY, ⟨%W, HW⟩⟩
  unfold bodyG
  rw [cc0__lambda__eq_skeleton]; unfold cc0__lambda__skel
  rw [k0_part1_eq_skeleton]; unfold k0_part1_skel
  rw [k0_part2_eq_skeleton]; unfold k0_part2_skel
  rw [k0_part3_eq_skeleton]; unfold k0_part3_skel
  sl_exec
  have e : run_first.sl.dma3 c X i g0 = payW c X (0) := by
    conv_lhs => unfold run_first.sl.dma3 run_first.sl.HG_w1
    rw [read_stored 0 e11,
      show k0_pay2 (run_first.sl.v21 c X i) = _ from load_landed _ e10 _ c _ _]
    rfl
  rw [e]
  sl_step
  isplitl [HC1]; · iexact HC1
  isplitl [HC2]; · iexact HC2
  isplitl [HX0]; · iexact HX0
  isplitl [HC0]; · iexact HC0
  isplitl [HS0]; · iexists _; iexact HS0
  isplitl [HO]; · iexists _; iexact HO
  iexists _; iexact HW

set_option backward.isDefEq.respectTransparency.types false in
/-- The body at the last point: batch 31 arrives, is decoded and goes out, and the three copies out still in flight land. -/
theorem run_last (h : (i 0).val = 31)
    (f0 : IBuf (F := F) c 1) (g0 : OBuf (F := F) c 0) (g1 : OBuf (F := F) c 1) (g2 : OBuf (F := F) c 2) :
    iprop(flightI c X 1 31 f0
      ∗ outFlight c X A 1 28 g1 ∗ outFlight c X A 2 29 g2 ∗ outFlight c X A 0 30 g0
      ∗ rowOP c A 31
      ∗ (∃ W, owes (c : Thread nD τ) 0 W))
    ⊢ wp frame (wpE (defs₀ (F := F)) Variants.none (c : Thread nD τ) none) Set.univ (bodyG i)
      (fun _ => iprop(rowIP c X 31 ∗ cellIP c 1 ∗ (∃ f, slotIP c 1 f)
        ∗ (rowDone c X A 28 ∗ rowDone c X A 29 ∗ rowDone c X A 30 ∗ rowDone c X A 31)
        ∗ (cellOP c 0 ∗ ∃ g, slotOP c 0 g) ∗ (cellOP c 1 ∗ ∃ g, slotOP c 1 g) ∗ (cellOP c 2 ∗ ∃ g, slotOP c 2 g)
        ∗ (∃ W, owes (c : Thread nD τ) 0 W))) := by
  have hc1 : ¬ (Scalar.cmpi .ne (Scalar.extui (Scalar.cmpi .eq (BitVec.ofNat 32 (i 0).val) 0#32)) 0#32 = 1#1) := by rw [cond1_iff]; omega
  have hc2 : ¬ k0_cond2 i = 1#1 := by rw [cond2_iff]; omega
  have hc3 : k0_cond3 i = 1#1 := by rw [cond3_iff]; omega
  have hc4 : (Scalar.cmpi .ne (Scalar.extui (Scalar.cmpi .eq (BitVec.ofNat 32 (i 0).val) 31#32)) 0#32 = 1#1) := by rw [cond4_iff]; omega
  have e10 : k0_off10 i = at3 (1 : Fin 3).val := by rw [k0_off10_eq, h]; rfl
  have e11 : k0_off11 i = at3 (1 : Fin 3).val := by rw [k0_off11_eq, h]; rfl
  have hI := accI_sub (s := 1) e10 (k0_off10_inb i)
  have hO := accO_sub (s := 1) e11 (k0_off11_inb i)
  iintro ⟨HF, HG, HD2, HD0, HY, ⟨%W, HW⟩⟩
  unfold bodyG
  rw [cc0__lambda__eq_skeleton]; unfold cc0__lambda__skel
  rw [k0_part1_eq_skeleton]; unfold k0_part1_skel
  rw [k0_part2_eq_skeleton]; unfold k0_part2_skel
  rw [k0_part3_eq_skeleton]; unfold k0_part3_skel
  sl_exec
  have e : run_last.sl.dma3 c X i g1 = payW c X (31) := by
    conv_lhs => unfold run_last.sl.dma3 run_last.sl.HG_src_w1
    rw [read_stored 1 e11,
      show k0_pay2 (run_last.sl.v21 c X i) = _ from load_landed _ e10 _ c _ _]
    rfl
  rw [e]
  sl_step
  isplitl [HF_src]; · iexact HF_src
  isplitl [HF]; · iexact HF
  isplitl [HF_dst]; · iexists _; iexact HF_dst
  isplitl [HG_dst HD2_dst HD0_dst HY]
  · isplitl [HG_dst]; · iexact HG_dst
    isplitl [HD2_dst]; · iexact HD2_dst
    isplitl [HD0_dst]; · iexact HD0_dst
    iexact HY
  isplitl [HD0 HD0_src]; · isplitl [HD0]; · iexact HD0
                           iexists _; iexact HD0_src
  isplitl [HG HG_src]; · isplitl [HG]; · iexact HG
                         iexists _; iexact HG_src
  isplitl [HD2 HD2_src]; · isplitl [HD2]; · iexact HD2
                           iexists _; iexact HD2_src
  iexists _; iexact HW

end Run

end Cert.KernelIdeal.Hand

end
-- ==== Proof.Ideal.Step.lean ====
/-
  The two rings before and after each grid point, and the body's step between them.
-/
module

public import proofs.«01_k».proof.Proof.Ideal.Body
public import proofs.«01_k».proof.Proof.Rings

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Families
variable (c : Dev nD) (X : XBuf (F := F) c) (A : YBuf (F := F) c)

/-- Slot `s` of the output ring, free. -/
abbrev freeO (s : Fin 3) : sProp 𝕄 := iprop(cellOP (F := F) c s ∗ ∃ g, slotOP c s g)
/-- Slot `s` of the output ring, carrying batch `b` out. -/
abbrev inflO (s : Fin 3) (b : Fin 32) : sProp 𝕄 := iprop(∃ g, outFlight c X A s b g)

/-- The input ring before point `p`. -/
def inRing (p : ℕ) : sProp 𝕄 :=
  if p = 0 then Ring.At₀ (cellIP c) (slotIP c) (rowIP c X) else Ring.At 2 (cellIP c) (slotIP c) (rowIP c X) (flightI c X) p
/-- The output ring before point `p`. -/
abbrev outRing (p : ℕ) : sProp 𝕄 := Ring.AtBΦ 3 (freeO c) (inflO c X A) (rowOP c A) (rowDone c X A) p

/-- Before point 0 the input ring is not started. -/
theorem inRing_zero : inRing c X 0 = Ring.At₀ (cellIP c) (slotIP c) (rowIP c X) := if_pos rfl
/-- From point 1 on the input ring runs two batches ahead. -/
theorem inRing_pos (p : ℕ) (h : 1 ≤ p) : inRing c X p = Ring.At 2 (cellIP c) (slotIP c) (rowIP c X) (flightI c X) p := if_neg (by omega)

/-- What the body holds before point `p`, its dues aside. -/
abbrev ringsAt (p : ℕ) : sProp 𝕄 := iprop(inRing c X p ∗ outRing c X A p ∗ (∃ W, owes (c : Thread nD τ) 0 W))
end Families

section Step
variable (c : Dev nD) (X : XBuf (F := F) c) (A : YBuf (F := F) c) (i : grid0.Coords)

/-- The body steps the rings from before point 0 to before point 1. -/
theorem step_first (h : (i 0).val = 0) :
    ringsAt c X A 0 ⊢ wp frame (wpE (defs₀ (F := F)) Variants.none (c : Thread nD τ) none) Set.univ (bodyG i) (fun _ => ringsAt c X A 1) := by
  unfold ringsAt outRing
  rw [inRing_zero, inRing_pos c X 1 (by omega), Ring.At₀_eq3 _ _ _ (by omega), Ring.At3_one' _ _ _ _ 0 rfl (by omega),
    Ring.AtBΦ_lt _ _ _ _ _ 0 (by omega), Ring.AtBΦ_lt _ _ _ _ _ 1 (by omega), Cert.Rings.here _ _ _ _ 0 (by omega),
    Cert.Rings.next_boot _ _ _ _ 0 (by omega), Cert.Rings.role0_free _ _ 0 (by omega)]
  iintro ⟨⟨⟨HX0, HX1, HX2, HXr⟩, ⟨HC0, ⟨%f0, HS0⟩⟩, ⟨HC1, ⟨%f1, HS1⟩⟩, ⟨HC2, ⟨%f2, HS2⟩⟩⟩, ⟨⟨HY, HYr⟩, HB, ⟨HO, ⟨%g0, HG⟩⟩, HR1, HR2⟩, HW⟩
  iapply (wp_wand_r Idealize.ShloMosaic.frame (wpE (defs₀ (F := F)) Variants.none (c : Thread nD τ) none) Set.univ)
  isplitl [HX0 HX1 HX2 HC0 HC1 HC2 HS0 HS1 HS2 HY HO HG HW]
  · iapply (run_first c X A i h f0 f1 f2 g0)
    isplitl [HX0 HC0 HS0]; · isplitl [HX0]; · iexact HX0
                             isplitl [HC0]; · iexact HC0
                             iexact HS0
    isplitl [HX1 HC1 HS1]; · isplitl [HX1]; · iexact HX1
                             isplitl [HC1]; · iexact HC1
                             iexact HS1
    isplitl [HX2 HC2 HS2]; · isplitl [HX2]; · iexact HX2
                             isplitl [HC2]; · iexact HC2
                             iexact HS2
    isplitl [HO]; · iexact HO
    isplitl [HG]; · iexact HG
    isplitl [HY]; · iexact HY
    iexact HW
  iintro %_ ⟨HF1, HF2, HX0, HC0, HS0, HG, HW⟩
  isplitl [HX0 HXr HF1 HF2 HC0 HS0]
  · isplitl [HX0 HXr]; · isplitl [HX0]; · iexact HX0
                         iexact HXr
    isplitl [HF1]; · iexists f1; iexact HF1
    isplitl [HF2]; · iexists f2; iexact HF2
    isplitl [HC0]; · iexact HC0
    iexact HS0
  isplitl [HYr HB HR1 HR2 HG]
  · isplitl [HYr]; · iexact HYr
    isplitl [HB]; · iexact HB
    isplitl [HR1]; · iexact HR1
    isplitl [HR2]; · iexact HR2
    iexact HG
  iexact HW

/-- The same at points 1 and 2. -/
theorem step_boot (h1 : 1 ≤ (i 0).val) (h3 : (i 0).val < 3) :
    ringsAt c X A (i 0).val ⊢ wp frame (wpE (defs₀ (F := F)) Variants.none (c : Thread nD τ) none) Set.univ (bodyG i) (fun _ => ringsAt c X A ((i 0).val + 1)) := by
  unfold ringsAt outRing
  rw [inRing_pos c X _ h1, inRing_pos c X ((i 0).val + 1) (by omega), Ring.At3_here _ _ _ _ (i 0).val (by omega), Ring.At3_next _ _ _ _ (i 0).val (by omega),
    Ring.slotAt3_next0 _ _ _ (i 0).val (by omega), Ring.slotAt3_next1 _ _ _ (i 0).val (by omega),
    Ring.AtBΦ_lt _ _ _ _ _ (i 0).val (by omega), Ring.AtBΦ_lt _ _ _ _ _ ((i 0).val + 1) (by omega), Cert.Rings.here _ _ _ _ (i 0).val (by omega),
    Cert.Rings.next_boot _ _ _ _ (i 0).val (by omega), Cert.Rings.role0_free _ _ (i 0).val (by omega)]
  iintro ⟨⟨⟨HX, HXr⟩, ⟨%f0, HF⟩, HF1, ⟨HC, ⟨%f2, HS⟩⟩⟩, ⟨⟨HY, HYr⟩, HB, ⟨HO, ⟨%g0, HG⟩⟩, HR1, HR2⟩, HW⟩
  iapply (wp_wand_r Idealize.ShloMosaic.frame (wpE (defs₀ (F := F)) Variants.none (c : Thread nD τ) none) Set.univ)
  isplitl [HX HF HC HS HY HO HG HW]
  · iapply (run_boot c X A i h1 h3 f0 f2 g0)
    isplitl [HX]; · iexact HX
    isplitl [HC]; · iexact HC
    isplitl [HS]; · iexact HS
    isplitl [HF]; · iexact HF
    isplitl [HO]; · iexact HO
    isplitl [HG]; · iexact HG
    isplitl [HY]; · iexact HY
    iexact HW
  iintro %_ ⟨HF2, HX, HC, HS, HG, HW⟩
  isplitl [HX HXr HF1 HF2 HC HS]
  · isplitl [HX HXr]; · isplitl [HX]; · iexact HX
                        iexact HXr
    isplitl [HF1]; · iexact HF1
    isplitl [HF2]; · iexists f2; iexact HF2
    isplitl [HC]; · iexact HC
    iexact HS
  isplitl [HYr HB HR1 HR2 HG]
  · isplitl [HYr]; · iexact HYr
    isplitl [HB]; · iexact HB
    isplitl [HR1]; · iexact HR1
    isplitl [HR2]; · iexact HR2
    iexact HG
  iexact HW

/-- The same at the points 3 to 29. -/
theorem step_steady (h3 : 3 ≤ (i 0).val) (h29 : (i 0).val + 2 < 32) :
    ringsAt c X A (i 0).val ⊢ wp frame (wpE (defs₀ (F := F)) Variants.none (c : Thread nD τ) none) Set.univ (bodyG i) (fun _ => ringsAt c X A ((i 0).val + 1)) := by
  unfold ringsAt outRing
  rw [inRing_pos c X _ (by omega), inRing_pos c X ((i 0).val + 1) (by omega), Ring.At3_here _ _ _ _ (i 0).val (by omega), Ring.At3_next _ _ _ _ (i 0).val (by omega),
    Ring.slotAt3_next0 _ _ _ (i 0).val (by omega), Ring.slotAt3_next1 _ _ _ (i 0).val (by omega),
    Ring.AtBΦ_lt _ _ _ _ _ (i 0).val (by omega), Ring.AtBΦ_lt _ _ _ _ _ ((i 0).val + 1) (by omega), Cert.Rings.here _ _ _ _ (i 0).val (by omega),
    Cert.Rings.next _ _ _ _ (i 0).val h3 (by omega), Cert.Rings.role0_infl _ _ (i 0).val h3]
  iintro ⟨⟨⟨HX, HXr⟩, ⟨%f0, HF⟩, HF1, ⟨HC, ⟨%f2, HS⟩⟩⟩, ⟨⟨HY, HYr⟩, HB, ⟨%g0, HG⟩, HR1, HR2⟩, HW⟩
  iapply (wp_wand_r Idealize.ShloMosaic.frame (wpE (defs₀ (F := F)) Variants.none (c : Thread nD τ) none) Set.univ)
  isplitl [HX HF HC HS HY HG HW]
  · iapply (run_steady c X A i h3 h29 f0 f2 g0)
    isplitl [HX]; · iexact HX
    isplitl [HC]; · iexact HC
    isplitl [HS]; · iexact HS
    isplitl [HF]; · iexact HF
    isplitl [HG]; · iexact HG
    isplitl [HY]; · iexact HY
    iexact HW
  iintro %_ ⟨HF2, HX, HC, HS, HD, HG, HW⟩
  isplitl [HX HXr HF1 HF2 HC HS]
  · isplitl [HX HXr]; · isplitl [HX]; · iexact HX
                        iexact HXr
    isplitl [HF1]; · iexact HF1
    isplitl [HF2]; · iexists f2; iexact HF2
    isplitl [HC]; · iexact HC
    iexact HS
  isplitl [HYr HB HD HR1 HR2 HG]
  · isplitl [HYr]; · iexact HYr
    isplitl [HB HD]; · isplitl [HD]; · iexact HD
                       iexact HB
    isplitl [HR1]; · iexact HR1
    isplitl [HR2]; · iexact HR2
    iexact HG
  iexact HW

/-- The same at point 30. -/
theorem step_tail (h : (i 0).val = 30) :
    ringsAt c X A (i 0).val ⊢ wp frame (wpE (defs₀ (F := F)) Variants.none (c : Thread nD τ) none) Set.univ (bodyG i) (fun _ => ringsAt c X A ((i 0).val + 1)) := by
  unfold ringsAt outRing
  rw [inRing_pos c X _ (by omega), inRing_pos c X ((i 0).val + 1) (by omega), Ring.At3_here_tail _ _ _ _ (i 0).val (by omega), Ring.At3_next_tail _ _ _ _ (i 0).val (by omega) (by omega),
    Ring.slotAt3_tail_role,
    Ring.AtBΦ_lt _ _ _ _ _ (i 0).val (by omega), Ring.AtBΦ_lt _ _ _ _ _ ((i 0).val + 1) (by omega), Cert.Rings.here _ _ _ _ (i 0).val (by omega),
    Cert.Rings.next _ _ _ _ (i 0).val (by omega) (by omega), Cert.Rings.role0_infl _ _ (i 0).val (by omega)]
  iintro ⟨⟨HXr, ⟨%f0, HF⟩, HF1, HF2⟩, ⟨⟨HY, HYr⟩, HB, ⟨%g0, HG⟩, HR1, HR2⟩, HW⟩
  iapply (wp_wand_r Idealize.ShloMosaic.frame (wpE (defs₀ (F := F)) Variants.none (c : Thread nD τ) none) Set.univ)
  isplitl [HF HY HG HW]
  · iapply (run_tail c X A i h f0 g0)
    isplitl [HF]; · iexact HF
    isplitl [HG]; · iexact HG
    isplitl [HY]; · iexact HY
    iexact HW
  iintro %_ ⟨HX, HC, HS, HD, HG, HW⟩
  isplitl [HX HXr HF1 HF2 HC HS]
  · isplitl [HX HXr]; · isplitl [HX]; · iexact HX
                        iexact HXr
    isplitl [HF1]; · iexact HF1
    isplitl [HF2]; · iexact HF2
    isplitl [HC]; · iexact HC
    iexact HS
  isplitl [HYr HB HD HR1 HR2 HG]
  · isplitl [HYr]; · iexact HYr
    isplitl [HB HD]; · isplitl [HD]; · iexact HD
                       iexact HB
    isplitl [HR1]; · iexact HR1
    isplitl [HR2]; · iexact HR2
    iexact HG
  iexact HW

/-- The last point: after it every batch has landed and every slot is free. -/
theorem step_last (h : (i 0).val = 31) :
    ringsAt c X A 31 ⊢ wp frame (wpE (defs₀ (F := F)) Variants.none (c : Thread nD τ) none) Set.univ (bodyG i) (fun _ => ringsAt c X A 32) := by
  unfold ringsAt outRing
  rw [inRing_pos c X 31 (by omega), inRing_pos c X 32 (by omega), Ring.At3_here_tail _ _ _ _ 31 (by omega), Ring.At3_next_tail _ _ _ _ 31 (by omega) (by omega),
    Ring.slotAt3_tail_role,
    Ring.AtBΦ_lt _ _ _ _ _ 31 (by omega), Ring.AtBΦ_end _ _ _ _ _ 32 rfl, Cert.Rings.here _ _ _ _ 31 (by omega),
    Cert.Rings.drained _ _ 31 (by omega) rfl, Cert.Rings.role0_infl _ _ 31 (by omega), Cert.Rings.role1_infl _ _ 31 (by omega), Cert.Rings.role2_infl _ _ 31 (by omega)]
  iintro ⟨⟨HXr, ⟨%f0, HF⟩, HF1, HF2⟩, ⟨⟨HY, HYr⟩, HB, ⟨%g1, HG1⟩, ⟨%g2, HG2⟩, ⟨%g0, HG0⟩⟩, HW⟩
  iapply (wp_wand_r Idealize.ShloMosaic.frame (wpE (defs₀ (F := F)) Variants.none (c : Thread nD τ) none) Set.univ)
  isplitl [HF HY HG0 HG1 HG2 HW]
  · iapply (run_last c X A i h f0 g0 g1 g2)
    isplitl [HF]; · iexact HF
    isplitl [HG1]; · iexact HG1
    isplitl [HG2]; · iexact HG2
    isplitl [HG0]; · iexact HG0
    isplitl [HY]; · iexact HY
    iexact HW
  iintro %_ ⟨HX, HC, HS, ⟨HD28, HD29, HD30, HD31⟩, HO0, HO1, HO2, HW⟩
  isplitl [HX HXr HF1 HF2 HC HS]
  · isplitl [HX HXr]; · isplitl [HX]; · iexact HX
                        iexact HXr
    isplitl [HF1]; · iexact HF1
    isplitl [HF2]; · iexact HF2
    isplitl [HC]; · iexact HC
    iexact HS
  isplitl [HB HD28 HD29 HD30 HD31 HO0 HO1 HO2]
  · isplitl [HB HD28 HD29 HD30 HD31]
    · isplitl [HD28]; · iexact HD28
      isplitl [HD29]; · iexact HD29
      isplitl [HD30]; · iexact HD30
      isplitl [HD31]; · iexact HD31
      iexact HB
    isplitl [HO0]; · iexact HO0
    isplitl [HO1]; · iexact HO1
    iexact HO2
  iexact HW

/-- The body steps the rings past its point, whichever it is. -/
theorem step : ringsAt c X A (i 0).val ⊢ wp frame (wpE (defs₀ (F := F)) Variants.none (c : Thread nD τ) none) Set.univ (bodyG i) (fun _ => ringsAt c X A ((i 0).val + 1)) := by
  have hlt : (i 0).val < 32 := (i 0).isLt
  by_cases h0 : (i 0).val = 0
  · rw [h0]; exact step_first c X A i h0
  by_cases h31 : (i 0).val = 31
  · rw [h31]; exact step_last c X A i h31
  by_cases h30 : (i 0).val = 30
  · exact step_tail c X A i h30
  by_cases h3 : (i 0).val < 3
  · exact step_boot c X A i (by omega) h3
  · exact step_steady c X A i (by omega) (by omega)

end Step

end Cert.KernelIdeal.Hand

end
-- ==== Proof.Ideal.Launch.lean ====
/-
  The launch: what the kernel is handed splits into the two rings before the first point, the rings after the last
  point join into the result, and the run of `@main` leaves the result at `G` and the argument as it was.
-/
module

public import proofs.«01_k».proof.Proof.Ideal.Step

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The pieces' element sets -/

/-- Two batches of the input are disjoint. -/
theorem xRow_disjoint (b b' : Fin 32) (h : b ≠ b') : Disjoint (xRowR b).set (xRowR b').set :=
  Ring.lead_disjoint (s := S32x255x2704) (0 : Fin 3) 1 (fun b : Fin 32 => at3 b.val) S1x255x2704.size xRow_inb (fun b => by simp) rfl b b' h
/-- The batches cover the input. -/
theorem xRow_cover : Finset.univ.biUnion (fun b : Fin 32 => (xRowR b).set) = Finset.univ :=
  Ring.lead_cover (s := S32x255x2704) (0 : Fin 3) 1 (fun b : Fin 32 => at3 b.val) S1x255x2704.size xRow_inb (fun b => by simp)
    (fun b a ha => by fin_cases a <;> first | exact absurd rfl ha | rfl) rfl (fun a ha => by fin_cases a <;> first | exact absurd rfl ha | rfl) rfl
/-- Two batches of the result are disjoint. -/
theorem oRow_disjoint (b b' : Fin 32) (h : b ≠ b') : Disjoint (oRowR b).set (oRowR b').set :=
  Ring.lead_disjoint (s := S32x8112x85) (0 : Fin 3) 1 (fun b : Fin 32 => at3 b.val) S1x8112x85.size oRow_inb (fun b => by simp) rfl b b' h
/-- The batches cover the result. -/
theorem oRow_cover : Finset.univ.biUnion (fun b : Fin 32 => (oRowR b).set) = Finset.univ :=
  Ring.lead_cover (s := S32x8112x85) (0 : Fin 3) 1 (fun b : Fin 32 => at3 b.val) S1x8112x85.size oRow_inb (fun b => by simp)
    (fun b a ha => by fin_cases a <;> first | exact absurd rfl ha | rfl) rfl (fun a ha => by fin_cases a <;> first | exact absurd rfl ha | rfl) rfl
/-- Two slots of the input ring are disjoint. -/
theorem xSlot_disjoint (b b' : Fin 3) (h : b ≠ b') : Disjoint (xSlotR b).set (xSlotR b').set :=
  Ring.lead_disjoint (s := S3x255x2704) (0 : Fin 3) 1 (fun b : Fin 3 => at3 b.val) S1x255x2704.size xSlot_inb (fun b => by simp) rfl b b' h
/-- The slots cover the input ring. -/
theorem xSlot_cover : Finset.univ.biUnion (fun b : Fin 3 => (xSlotR b).set) = Finset.univ :=
  Ring.lead_cover (s := S3x255x2704) (0 : Fin 3) 1 (fun b : Fin 3 => at3 b.val) S1x255x2704.size xSlot_inb (fun b => by simp)
    (fun b a ha => by fin_cases a <;> first | exact absurd rfl ha | rfl) rfl (fun a ha => by fin_cases a <;> first | exact absurd rfl ha | rfl) rfl
/-- Two slots of the output ring are disjoint. -/
theorem oSlot_disjoint (b b' : Fin 3) (h : b ≠ b') : Disjoint (oSlotR b).set (oSlotR b').set :=
  Ring.lead_disjoint (s := S3x8112x85) (0 : Fin 3) 1 (fun b : Fin 3 => at3 b.val) S1x8112x85.size oSlot_inb (fun b => by simp) rfl b b' h
/-- The slots cover the output ring. -/
theorem oSlot_cover : Finset.univ.biUnion (fun b : Fin 3 => (oSlotR b).set) = Finset.univ :=
  Ring.lead_cover (s := S3x8112x85) (0 : Fin 3) 1 (fun b : Fin 3 => at3 b.val) S1x8112x85.size oSlot_inb (fun b => by simp)
    (fun b a ha => by fin_cases a <;> first | exact absurd rfl ha | rfl) rfl (fun a ha => by fin_cases a <;> first | exact absurd rfl ha | rfl) rfl

/-- An element of batch `b` of the result has `b` as its leading coordinate. -/
theorem lead_of_mem_rowO (b : Fin 32) (y : S32x8112x85.Idx) (h : y ∈ (rowO b).view.set) : y 0 = b := by
  rw [rowO_set] at h
  have := Rect.mem_set_unit.mp h 0
  exact Fin.ext (by simp at this; omega)

/-! ## The result -/

section Result
variable (c : Dev nD) (X : XBuf (F := F) c) (A : YBuf (F := F) c)

/-- The result's contents after the run: each batch written with its decoded block. -/
def result : YBuf (F := F) c := fun y =>
  (rowO (y 0)).view.writes (Elt F) A [⟨Rect.whole S8112x85, payW c X (y 0)⟩] y

/-- A batch that is done holds the final result's part. -/
theorem rowDone_eq (b : Fin 32) : rowDone c X A b = rowOP c (result c X A) b := by
  unfold rowDone rowOP
  refine pointsTo_congr fun y hy => ?_
  have e := lead_of_mem_rowO b y hy
  unfold result
  rw [e]

/-! ## Whole buffers as their pieces -/

/-- The input is its batches. -/
theorem x_eq : (((c : Thread nD τ).loc main_v0) ↦{fullShare} X : sProp 𝕄) = bigSep Finset.univ (rowIP c X) := by
  rw [Ring.pointsTo_blocks (ℓ := (c : Thread nD τ).loc main_v0) (fun b : Fin 32 => (xRowR b).set) xRow_disjoint xRow_cover]
  exact bigSep_congr fun b _ => by unfold rowIP; rw [rowI_set]; rfl
/-- The result is its batches. -/
theorem y_eq : (((c : Thread nD τ).loc main_v1) ↦{fullShare} A : sProp 𝕄) = bigSep Finset.univ (rowOP c A) := by
  rw [Ring.pointsTo_blocks (ℓ := (c : Thread nD τ).loc main_v1) (fun b : Fin 32 => (oRowR b).set) oRow_disjoint oRow_cover]
  exact bigSep_congr fun b _ => by unfold rowOP; rw [rowO_set]; rfl

/-- A slot of the input ring as a part of its buffer. -/
theorem slotIP_eq (s : Fin 3) (f) : slotIP c s f = (((c : Thread nD τ).loc cc0_scratch0) ↦[(xSlotR s).set]{fullShare} f : sProp 𝕄) :=
  congrArg (fun S => (_ ↦[S]{fullShare} f : sProp 𝕄)) (slotI_set s)
/-- A slot of the output ring as a part of its buffer. -/
theorem slotOP_eq (s : Fin 3) (f) : slotOP c s f = (((c : Thread nD τ).loc cc0_scratch1) ↦[(oSlotR s).set]{fullShare} f : sProp 𝕄) :=
  congrArg (fun S => (_ ↦[S]{fullShare} f : sProp 𝕄)) (slotO_set s)

end Result

/-! ## The kernel's own cells -/

/-- The kernel's six semaphore cells: three for copies in, three for copies out. -/
abbrev osem0 : Fin 6 → SemLoc sig := fun j => (![SemLoc.dma 0, SemLoc.dma 1, SemLoc.dma 2, SemLoc.dma 3, SemLoc.dma 4, SemLoc.dma 5] : Fin 6 → SemLoc sig) j
/-- The six cells are the kernel's own and distinct. -/
theorem ownSemFacts0 : Pipeline.OwnSemFacts cfg0.spec osem0 := by decide
/-- The kernel's own cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(cellIP c 0 ∗ cellIP c 1 ∗ cellIP c 2 ∗ cellOP c 0 ∗ cellOP c 1 ∗ cellOP c 2) := by
  rw [Pipeline.ownSems0_eq_of_list c osem0 [0, 1, 2, 3, 4, 5] (by decide) (by decide)]; rfl

/-! ## The launch's data -/

variable (m : (ℓ : Loc nD τ sig) → Buf (Elt F) ℓ) (ρ : Dev nD → PrngReg)

/-- The buffer that the kernel reads by its own copies. -/
abbrev H0 : Finset (Ref sig .tc) := {main_v0}
/-- The buffer that the kernel writes by its own copies. -/
abbrev R0 : Finset (Ref sig .tc) := {main_v1}
/-- The buffer read is staged by no window. -/
theorem H0_sub : H0 ⊆ Pipeline.restRefs sig cfg0.spec := by decide
/-- The buffer written is staged by no window and is not the one read. -/
theorem R0_sub : R0 ⊆ Pipeline.restRefs sig cfg0.spec \ H0 := by decide

/-- The result's contents on core `c`, from the buffers as the region finds them. -/
abbrev resultOf (c : Dev nD) : YBuf (F := F) c := result c (V m c main_v0) (V m c main_v1)
/-- The buffers after the run: the result written, the others as the region found them. -/
def G (c : Dev nD) : (b : Ref sig .tc) → Buf (Elt F) ((c.tc : Thread nD τ).loc b) :=
  Function.update (V m c) main_v1 (resultOf m c)
/-- After the run the result's buffer holds the result. -/
theorem G_v1 (c : Dev nD) : G m c main_v1 = resultOf m c := Function.update_self ..

/-- What rides across the grid: the two rings and the core's generator register. -/
def Φat (c : Dev nD) (p : ℕ) : sProp 𝕄 :=
  iprop(inRing c (V m c main_v0) p ∗ outRing c (V m c main_v0) (V m c main_v1) p ∗ (∃ r, prngReg c r))

/-- The data of the grid's induction: what rides across it, and no dues. -/
def dats (_ : Fin 1) (c : Dev nD) : Dat τ (Elt F) Unit ℕ (Pipeline.UD sig nD τ) ℕ cfg0 c where
  A w := V m c (Pipeline.arrRef cfg0.spec w)
  after w t := w.elim0
  Φ t := Φat m c t.val
  q _ := fullShare
  owed _ := 0

/-- A point's only coordinate is its number. -/
theorem coords_val : ∀ t : Fin grid0.N, (grid0.coords t 0).val = t.val := by decide +kernel

/-- The function called at a point is the body at that point. -/
theorem defs₀_row (t : Fin cfg0.N) :
    defs₀ (F := F) .tc cfg0.body (cfg0.bodyArgs t (cfg0.slots t)) = bodyAt0 t := by
  unfold defs₀; rw [Defs.onTc_tc]

/-- The body at point `t` steps what rides across the grid. -/
theorem sound_body (c : Dev nD) (t : Fin grid0.N) (k : ℕ) (hk : k = t.val) :
    iprop(Φat m c k ∗ (∃ W, owes (c : Thread nD τ) 0 W))
      ⊢ wp frame (wpE (defs₀ (F := F)) Variants.none (c : Thread nD τ) none) Set.univ (bodyG (grid0.coords t))
        (fun _ => iprop(Φat m c (k + 1) ∗ (∃ W, owes (c : Thread nD τ) 0 W))) := by
  subst hk
  unfold Φat
  iintro ⟨⟨HI, HO, HP⟩, HW⟩
  iapply (wp_wand_r Idealize.ShloMosaic.frame (wpE (defs₀ (F := F)) Variants.none (c : Thread nD τ) none) Set.univ)
  have hs := step c (V m c main_v0) (V m c main_v1) (grid0.coords t)
  rw [coords_val t] at hs
  isplitl [HI HO HW]
  · iapply hs
    isplitl [HI]; · iexact HI
    isplitl [HO]; · iexact HO
    iexact HW
  iintro %_ ⟨HI, HO, HW⟩
  isplitl [HI HO HP]
  · isplitl [HI]; · iexact HI
    isplitl [HO]; · iexact HO
    iexact HP
  iexact HW

/-! ## In and out of the grid -/

/-- The input ring's buffer splits into its three slots. -/
theorem splitI (c : Dev nD) :
    iprop(∃ f, ((c : Thread nD τ).loc cc0_scratch0) ↦{fullShare} f)
      ⊢ (iprop((∃ f, slotIP (F := F) c 0 f) ∗ (∃ f, slotIP (F := F) c 1 f) ∗ ∃ f, slotIP (F := F) c 2 f) : sProp 𝕄) :=
  Ring.slots3_split (ℓ := (c : Thread nD τ).loc cc0_scratch0) (q := fullShare) (fun s : Fin 3 => (xSlotR s).set) xSlot_disjoint xSlot_cover
    (slotIP c 0) (slotIP c 1) (slotIP c 2) (slotIP_eq c 0) (slotIP_eq c 1) (slotIP_eq c 2)
/-- The output ring's buffer splits into its three slots. -/
theorem splitO (c : Dev nD) :
    iprop(∃ f, ((c : Thread nD τ).loc cc0_scratch1) ↦{fullShare} f)
      ⊢ (iprop((∃ f, slotOP (F := F) c 0 f) ∗ (∃ f, slotOP (F := F) c 1 f) ∗ ∃ f, slotOP (F := F) c 2 f) : sProp 𝕄) :=
  Ring.slots3_split (ℓ := (c : Thread nD τ).loc cc0_scratch1) (q := fullShare) (fun s : Fin 3 => (oSlotR s).set) oSlot_disjoint oSlot_cover
    (slotOP c 0) (slotOP c 1) (slotOP c 2) (slotOP_eq c 0) (slotOP_eq c 1) (slotOP_eq c 2)
/-- The input ring's three slots join into its buffer. -/
theorem joinI (c : Dev nD) :
    iprop((∃ f, slotIP (F := F) c 0 f) ∗ (∃ f, slotIP (F := F) c 1 f) ∗ ∃ f, slotIP (F := F) c 2 f)
      ⊢ (iprop(∃ f, ((c : Thread nD τ).loc cc0_scratch0) ↦{fullShare} f) : sProp 𝕄) :=
  Ring.slots3_join (ℓ := (c : Thread nD τ).loc cc0_scratch0) (q := fullShare) (fun s : Fin 3 => (xSlotR s).set) xSlot_disjoint xSlot_cover
    (slotIP c 0) (slotIP c 1) (slotIP c 2) (slotIP_eq c 0) (slotIP_eq c 1) (slotIP_eq c 2)
/-- The output ring's three slots join into its buffer. -/
theorem joinO (c : Dev nD) :
    iprop((∃ f, slotOP (F := F) c 0 f) ∗ (∃ f, slotOP (F := F) c 1 f) ∗ ∃ f, slotOP (F := F) c 2 f)
      ⊢ (iprop(∃ f, ((c : Thread nD τ).loc cc0_scratch1) ↦{fullShare} f) : sProp 𝕄) :=
  Ring.slots3_join (ℓ := (c : Thread nD τ).loc cc0_scratch1) (q := fullShare) (fun s : Fin 3 => (oSlotR s).set) oSlot_disjoint oSlot_cover
    (slotOP c 0) (slotOP c 1) (slotOP c 2) (slotOP_eq c 0) (slotOP_eq c 1) (slotOP_eq c 2)

/-- What the region hands the kernel splits into the rings before the first point. -/
theorem hin (c : Dev nD) :
    Pipeline.ΦDRG osem0 cfg0.spec H0 R0 (V m) (V m) c ⊢ ((dats m 0 c).Φ 0 : sProp 𝕄) := by
  rw [Pipeline.ΦDRG_eq, ownSems00_eq, BI.bigSep_singleton, Pipeline.routed_singleton]
  show _ ⊢ Φat m c 0
  unfold Φat outRing
  rw [scopedRest0_eq c, inRing_zero, Ring.AtBΦ_lt _ _ _ _ _ 0 (by omega), Ring.AtB_zero]
  unfold Ring.At₀ Ring.AtB₀
  rw [Ring.bigSep_fin3, Ring.bigSep_fin3, x_eq c (V m c main_v0), y_eq c (V m c main_v1)]
  iintro ⟨⟨HI, HO⟩, HP, ⟨C0, C1, C2, D0, D1, D2⟩, HX, HY⟩
  icases (splitI c) $$ [HI] with ⟨S0, S1, S2⟩
  · iexact HI
  icases (splitO c) $$ [HO] with ⟨T0, T1, T2⟩
  · iexact HO
  isplitl [HX C0 C1 C2 S0 S1 S2]
  · isplitl [HX]; · iexact HX
    isplitl [C0 S0]; · isplitl [C0]; · iexact C0
                       iexact S0
    isplitl [C1 S1]; · isplitl [C1]; · iexact C1
                       iexact S1
    isplitl [C2]; · iexact C2
    iexact S2
  isplitl [HY D0 D1 D2 T0 T1 T2]
  · isplitl [HY]; · iexact HY
    isplitl [D0 T0]; · isplitl [D0]; · iexact D0
                       iexact T0
    isplitl [D1 T1]; · isplitl [D1]; · iexact D1
                       iexact T1
    isplitl [D2]; · iexact D2
    iexact T2
  iexact HP

/-- All batches done are the whole result. -/
theorem rowDone_all (c : Dev nD) (X : XBuf (F := F) c) (A : YBuf (F := F) c) :
    bigSep Finset.univ (rowDone c X A) = (((c : Thread nD τ).loc main_v1) ↦{fullShare} result c X A : sProp 𝕄) := by
  rw [y_eq c (result c X A)]
  exact bigSep_congr fun b _ => rowDone_eq c X A b

/-- The rings after the last point join into what the region takes back, the result written. -/
theorem hout (c : Dev nD) :
    ((dats m 0 c).Φ (Fin.last cfg0.N) : sProp 𝕄) ⊢ Pipeline.ΦDRG osem0 cfg0.spec H0 R0 (V m) (G m) c := by
  rw [Pipeline.ΦDRG_eq, ownSems00_eq, BI.bigSep_singleton, Pipeline.routed_singleton, G_v1]
  show Φat m c 32 ⊢ _
  unfold Φat outRing
  rw [scopedRest0_eq c, inRing_pos c _ 32 (by omega), Ring.AtBΦ_end _ _ _ _ _ 32 rfl]
  unfold Ring.AtBEnd
  rw [Ring.bigSep_fin3, rowDone_all, x_eq c (V m c main_v0)]
  iintro ⟨HI, ⟨HY, ⟨D0, T0⟩, ⟨D1, T1⟩, ⟨D2, T2⟩⟩, HP⟩
  icases (Ring.free3_of_At_last (rowIP c (V m c main_v0)) (cellIP c) (slotIP c) (flightI c (V m c main_v0))) $$ [HI] with ⟨HX, ⟨C0, S0⟩, ⟨C1, S1⟩, ⟨C2, S2⟩⟩
  · iexact HI
  isplitl [S0 S1 S2 T0 T1 T2]
  · isplitl [S0 S1 S2]
    · iapply (joinI c)
      isplitl [S0]; · iexact S0
      isplitl [S1]; · iexact S1
      iexact S2
    iapply (joinO c)
    isplitl [T0]; · iexact T0
    isplitl [T1]; · iexact T1
    iexact T2
  isplitl [HP]; · iexact HP
  isplitl [C0 C1 C2 D0 D1 D2]
  · isplitl [C0]; · iexact C0
    isplitl [C1]; · iexact C1
    isplitl [C2]; · iexact C2
    isplitl [D0]; · iexact D0
    isplitl [D1]; · iexact D1
    iexact D2
  isplitl [HX]; · iexact HX
  iexact HY

/-! ## The body obligation -/

/-- The body's dues at a point, their bound forgotten. -/
theorem owes_in (c : Dev nD) (k) :
    ((dats m 0 c).owesAt () k : sProp 𝕄) ⊢ iprop(∃ W, owes (c : Thread nD τ) 0 W) := by
  unfold Dat.owesAt Pipeline.owesWithin
  rw [show (dats m 0 c).owed k = 0 from rfl]
  iintro ⟨%W, -, HW⟩
  iexists W; iexact HW
/-- Dues of the body meet the bound, which is vacuous. -/
theorem owes_out (c : Dev nD) (k) :
    iprop(∃ W, owes (c : Thread nD τ) 0 W) ⊢ ((dats m 0 c).owesAt () k : sProp 𝕄) := by
  unfold Dat.owesAt Pipeline.owesWithin
  rw [show (dats m 0 c).owed k = 0 from rfl]
  iintro ⟨%W, HW⟩
  iexists W
  isplitr; · ipureintro; exact fun _ _ => Or.inl trivial
  iexact HW

/-- The body meets its obligation at every point (the call stages no window). -/
theorem body_obligation (c : Dev nD) : BodyObligation (dats (F := F) m 0 c) (defs₀ (F := F)) Variants.none () Set.univ := fun t => by
  rw [defs₀_row, show (Finset.univ : Finset (Fin cfg0.W)) = ∅ from rfl, BI.bigSep_empty, BI.bigSep_empty]
  have hs : iprop(Φat m c t.val ∗ (∃ W, owes (c : Thread nD τ) 0 W))
      ⊢ wp Idealize.ShloMosaic.frame (wpE (defs₀ (F := F)) Variants.none (c : Thread nD τ) none) Set.univ (bodyAt0 t)
        (fun _ => iprop(Φat m c (t.val + 1) ∗ (∃ W, owes (c : Thread nD τ) 0 W))) := sound_body m c t t.val rfl
  show iprop(Φat m c t.val ∗ _ ∗ _) ⊢ wp _ _ _ _ fun _ => iprop(Φat m c (t.val + 1) ∗ _ ∗ _)
  iintro ⟨HΦ, HW, HE⟩
  iapply (wp_wand_r Idealize.ShloMosaic.frame (wpE (defs₀ (F := F)) Variants.none (c : Thread nD τ) none) Set.univ)
  isplitl [HΦ HW]
  · iapply hs
    isplitl [HΦ]; · iexact HΦ
    iapply (owes_in m c t.castSucc); iexact HW
  iintro %_ ⟨HΦ, HW⟩
  isplitl [HΦ]; · iexact HΦ
  isplitl [HW]
  · iapply (owes_out m c t.succ); iexact HW
  iexact HE

/-! ## The run -/

set_option maxHeartbeats 800000 in
/-- The host operations before the call, then the call, are `@main`. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The call stages no window, so nothing is asked of the windows' arrays. -/
theorem A_eq (c : Dev nD) (w : Fin cfg0.W) : (dats (F := F) m 0 c).A w = V m c (Pipeline.arrRef cfg0.spec w) := w.elim0

set_option backward.isDefEq.respectTransparency.types false in
/-- From any memory with zero counters, every weakly fair execution of `@main` terminates with the result decoded from
    the reshaped argument, the argument as it was, and every counter at zero. -/
theorem run_main :
    θ_run defs (onTc (main (F := F))) ⟨m, fun _ => 0, ρ⟩ (fun r =>
      (∀ c : Dev nD, r.2.mem (c.tc.loc main_v1) = resultOf m c ∧ r.2.mem (c.tc.loc main_arg0) = m (c.tc.loc main_arg0))
        ∧ r.2.sem = fun _ => 0) :=
  Pipeline.θ_run_frame_dmaRG cfgs (dats m) 0 launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (G := G m) (hin := hin m) (hout := hout m)
    (Q' := _) (hQ' := fun r h => ⟨fun c => ⟨by
        rw [h.1.written c (b := main_v1) (by decide), G_v1],
        ((h.1.1 c).2 main_arg0 (Finset.mem_sdiff.mpr ⟨Pipeline.mem_restRefs_of main_arg0 (by decide) (by decide), by decide⟩)).trans (V_main_arg0 m c)⟩, h.2⟩)

/-- The frame: the argument unchanged and the counters zero. -/
theorem frame_main :
    θ_run defs (onTc (main (F := F))) ⟨m, fun _ => 0, ρ⟩ (fun r =>
      (∀ c : Dev nD, r.2.mem (c.tc.loc main_arg0) = m (c.tc.loc main_arg0)) ∧ r.2.sem = fun _ => 0) :=
  (θ_run defs (onTc (main (F := F))) _).mono (fun _ h => ⟨fun c => (h.1 c).2, h.2⟩) (run_main m ρ)

end Cert.KernelIdeal.Hand

end
-- ==== Proof.Cell.lean ====
/-
  One decoded attribute of one cell: what both programs compute, over extended reals.
-/
module

public import Idealize.ShloMosaic.Lib.Pointwise

@[expose] public section

noncomputable section

namespace Cert.Decode

open Idealize.ShloMosaic

/-- The stride. -/
def stride : EReal := Ideal.ofBits .f32 0x41000000#32
/-- Anchor `a`'s width. -/
def anchorW : Fin 3 → EReal := ![Ideal.ofBits .f32 0x41200000#32, Ideal.ofBits .f32 0x41800000#32, Ideal.ofBits .f32 0x42040000#32]
/-- Anchor `a`'s height. -/
def anchorH : Fin 3 → EReal := ![Ideal.ofBits .f32 0x41500000#32, Ideal.ofBits .f32 0x41F00000#32, Ideal.ofBits .f32 0x41B80000#32]
/-- A cell coordinate as a float. -/
def coord (n : ℕ) : EReal := FloatOps.sitofp (F := Ideal) .f32 (BitVec.ofNat 32 n)

/-- Attribute `r` decoded from `v`, at column `gx` and row `gy` of the grid, for an anchor of size `aw` by `ah`. -/
def cell (v : EReal) (gx gy : ℕ) (aw ah : EReal) (r : ℕ) : EReal :=
  if r = 0 then (Ideal.logistic v + coord gx) * stride
  else if r = 1 then (Ideal.logistic v + coord gy) * stride
  else if r = 2 then Ideal.exp v * aw
  else if r = 3 then Ideal.exp v * ah
  else Ideal.logistic v

/-- The stride is 8. -/
theorem stride_eq : stride = ((8 : ℝ) : EReal) := by
  unfold stride
  simp [Ideal.ofBits, Ideal.ieee, -EReal.coe_mul]; norm_num

/-- Dividing by the stride and multiplying by it again changes nothing. -/
theorem div_stride_mul (x : EReal) : Ideal.div x stride * stride = x := by
  have h : ((8 : ℝ) : EReal) ≠ 0 := by exact_mod_cast (by norm_num : (8 : ℝ) ≠ 0)
  rw [stride_eq, Ideal.div, if_neg h, mul_assoc, ← EReal.coe_inv, ← EReal.coe_mul, inv_mul_cancel₀ (by norm_num), EReal.coe_one, mul_one]

end Cert.Decode

end
-- ==== Proof.RefValue.lean ====
/-
  The reference's result read at an index.
-/
module

public import proofs.«01_k».proof.Proof.Gen.ReferenceIdeal.Run
public import proofs.«01_k».proof.Proof.Cell
public import Idealize.ShloMosaic.Lib.Pointwise
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-- The argument as anchors, cells, attributes. -/
def cells (x : FVec Ideal S32x255x52x52 .f32) : FVec Ideal S32x3x52x52x85 .f32 :=
  transpose S32x3x52x52x85 [0, 1, 3, 4, 2] (shapeCast S32x3x85x52x52 x shapeCasts_S32x255x52x52_S32x3x85x52x52) transposes_S32x3x85x52x52_S32x3x52x52x85_0_1_3_4_2

/-- An array of ones. -/
abbrev ones : FVec Ideal S32x3x52x52 .f32 := broadcastInDim S32x3x52x52 ![] bcast_S_S32x3x52x52 (constant S_ .f32 0x3F800000#32)
/-- The sigmoid as the reference spells it. -/
def sig (v : FVec Ideal S32x3x52x52 .f32) : FVec Ideal S32x3x52x52 .f32 := Host.divf ones (addf ones (Host.exp (Host.negf v)))
/-- The anchors divided by the stride. -/
def scaled : FVec Ideal S3x2 .f32 :=
  Host.divf (fun i => FloatOps.ofBits .f32 (lit0 (S3x2.rowMajor i))) (broadcastInDim S3x2 ![] bcast_S_S3x2 (constant S_ .f32 0x41000000#32))

/-- The boxes' horizontal centres, in cells. -/
def boxX (x : FVec Ideal S32x255x52x52 .f32) : FVec Ideal S32x3x52x52 .f32 :=
  addf (sig (shapeCast S32x3x52x52 (extractStridedSlice S32x3x52x52x1 ![0, 0, 0, 0, 0] (cells x) slices_S32x3x52x52x85_S32x3x52x52x1_0_0_0_0_0) shapeCasts_S32x3x52x52x1_S32x3x52x52))
    (broadcastInDim S32x3x52x52 ![0, 1, 2, 3] bcast_S1x1x1x52_S32x3x52x52_0_1_2_3 (shapeCast S1x1x1x52 (sitofp .f32 (iotaInDim S52 32 0)) shapeCasts_S52_S1x1x1x52))
/-- The boxes' vertical centres, in cells. -/
def boxY (x : FVec Ideal S32x255x52x52 .f32) : FVec Ideal S32x3x52x52 .f32 :=
  addf (sig (shapeCast S32x3x52x52 (extractStridedSlice S32x3x52x52x1 ![0, 0, 0, 0, 1] (cells x) slices_S32x3x52x52x85_S32x3x52x52x1_0_0_0_0_1) shapeCasts_S32x3x52x52x1_S32x3x52x52))
    (broadcastInDim S32x3x52x52 ![0, 1, 2, 3] bcast_S1x1x52x1_S32x3x52x52_0_1_2_3 (shapeCast S1x1x52x1 (sitofp .f32 (iotaInDim S52 32 0)) shapeCasts_S52_S1x1x52x1))
/-- The boxes' widths, in cells. -/
def boxW (x : FVec Ideal S32x255x52x52 .f32) : FVec Ideal S32x3x52x52 .f32 :=
  mulf (Host.exp (shapeCast S32x3x52x52 (extractStridedSlice S32x3x52x52x1 ![0, 0, 0, 0, 2] (cells x) slices_S32x3x52x52x85_S32x3x52x52x1_0_0_0_0_2) shapeCasts_S32x3x52x52x1_S32x3x52x52))
    (broadcastInDim S32x3x52x52 ![0, 1, 2, 3] bcast_S1x3x1x1_S32x3x52x52_0_1_2_3
      (shapeCast S1x3x1x1 (shapeCast S3 (extractStridedSlice S3x1 ![0, 0] scaled slices_S3x2_S3x1_0_0) shapeCasts_S3x1_S3) shapeCasts_S3_S1x3x1x1))
/-- The boxes' heights, in cells. -/
def boxH (x : FVec Ideal S32x255x52x52 .f32) : FVec Ideal S32x3x52x52 .f32 :=
  mulf (Host.exp (shapeCast S32x3x52x52 (extractStridedSlice S32x3x52x52x1 ![0, 0, 0, 0, 3] (cells x) slices_S32x3x52x52x85_S32x3x52x52x1_0_0_0_0_3) shapeCasts_S32x3x52x52x1_S32x3x52x52))
    (broadcastInDim S32x3x52x52 ![0, 1, 2, 3] bcast_S1x3x1x1_S32x3x52x52_0_1_2_3
      (shapeCast S1x3x1x1 (shapeCast S3 (extractStridedSlice S3x1 ![0, 1] scaled slices_S3x2_S3x1_0_1) shapeCasts_S3x1_S3) shapeCasts_S3_S1x3x1x1))
/-- The box attributes, times the stride. -/
def boxes (x : FVec Ideal S32x255x52x52 .f32) : FVec Ideal S32x8112x4 .f32 :=
  mulf (shapeCast S32x8112x4 (concatenate S32x3x52x52x4 4
    [⟨S32x3x52x52x1, broadcastInDim S32x3x52x52x1 ![0, 1, 2, 3] bcast_S32x3x52x52_S32x3x52x52x1_0_1_2_3 (boxX x)⟩,
     ⟨S32x3x52x52x1, broadcastInDim S32x3x52x52x1 ![0, 1, 2, 3] bcast_S32x3x52x52_S32x3x52x52x1_0_1_2_3 (boxY x)⟩,
     ⟨S32x3x52x52x1, broadcastInDim S32x3x52x52x1 ![0, 1, 2, 3] bcast_S32x3x52x52_S32x3x52x52x1_0_1_2_3 (boxW x)⟩,
     ⟨S32x3x52x52x1, broadcastInDim S32x3x52x52x1 ![0, 1, 2, 3] bcast_S32x3x52x52_S32x3x52x52x1_0_1_2_3 (boxH x)⟩]
    concatenates_S32x3x52x52x1_S32x3x52x52x1_S32x3x52x52x1_S32x3x52x52x1_S32x3x52x52x4_d4) shapeCasts_S32x3x52x52x4_S32x8112x4)
    (broadcastInDim S32x8112x4 ![] bcast_S_S32x8112x4 (constant S_ .f32 0x41000000#32))
/-- The confidence. -/
def conf (x : FVec Ideal S32x255x52x52 .f32) : FVec Ideal S32x8112x1 .f32 :=
  shapeCast S32x8112x1 (sig (shapeCast S32x3x52x52 (extractStridedSlice S32x3x52x52x1 ![0, 0, 0, 0, 4] (cells x) slices_S32x3x52x52x85_S32x3x52x52x1_0_0_0_0_4) shapeCasts_S32x3x52x52x1_S32x3x52x52)) shapeCasts_S32x3x52x52_S32x8112x1
/-- The class scores. -/
def classes (x : FVec Ideal S32x255x52x52 .f32) : FVec Ideal S32x8112x80 .f32 :=
  shapeCast S32x8112x80 (Host.divf (broadcastInDim S32x3x52x52x80 ![] bcast_S_S32x3x52x52x80 (constant S_ .f32 0x3F800000#32))
    (addf (broadcastInDim S32x3x52x52x80 ![] bcast_S_S32x3x52x52x80 (constant S_ .f32 0x3F800000#32))
      (Host.exp (Host.negf (extractStridedSlice S32x3x52x52x80 ![0, 0, 0, 0, 5] (cells x) slices_S32x3x52x52x85_S32x3x52x52x80_0_0_0_0_5))))) shapeCasts_S32x3x52x52x80_S32x8112x80
/-- The reference's result as a function of its argument. -/
def decoded (x : FVec Ideal S32x255x52x52 .f32) : FVec Ideal S32x8112x85 .f32 :=
  concatenate S32x8112x85 2 [⟨S32x8112x4, boxes x⟩, ⟨S32x8112x1, conf x⟩, ⟨S32x8112x80, classes x⟩] concatenates_S32x8112x4_S32x8112x1_S32x8112x80_S32x8112x85_d2

/-- The reference's result is `decoded` of its argument. -/
theorem res_eq (m : (ℓ : Loc nD τ Cert.ReferenceIdeal.sig) → Buf (Elt Ideal) ℓ) (c : Dev nD) :
    res_main_v69 m c = decoded (m ((c.tc : Thread nD τ).loc main_arg0)) := rfl

/-- The reference's regrouped input, read at an index. -/
theorem cells_at (x : FVec Ideal S32x255x52x52 .f32) (b : Fin 32) (a : Fin 3) (i j : Fin 52) (r : Fin 85) :
    cells x (ix5 b a i j r) = x (ix4 b ⟨a.val * 85 + r.val, by omega⟩ i j) := by
  pointwise [cells]

open Cert.Decode

/-- The horizontal centres, read at an index. -/
theorem boxX_at (x : FVec Ideal S32x255x52x52 .f32) (b : Fin 32) (a : Fin 3) (i j : Fin 52) :
    boxX x (ix4 b a i j) = Ideal.logistic (x (ix4 b ⟨a.val * 85, by omega⟩ i j)) + coord j.val := by
  pointwise [boxX, sig, cells_at]
  rfl
/-- The vertical centres, read at an index. -/
theorem boxY_at (x : FVec Ideal S32x255x52x52 .f32) (b : Fin 32) (a : Fin 3) (i j : Fin 52) :
    boxY x (ix4 b a i j) = Ideal.logistic (x (ix4 b ⟨a.val * 85 + 1, by omega⟩ i j)) + coord i.val := by
  pointwise [boxY, sig, cells_at]
  rfl
/-- The first scaled anchor column is the widths, the second the heights, each divided by the stride. -/
theorem scaled_at (a : Fin 3) :
    scaled (ix2 a 0) = Ideal.div (anchorW a) stride ∧ scaled (ix2 a 1) = Ideal.div (anchorH a) stride := by
  fin_cases a <;> exact ⟨rfl, rfl⟩
/-- The widths, read at an index. -/
theorem boxW_at (x : FVec Ideal S32x255x52x52 .f32) (b : Fin 32) (a : Fin 3) (i j : Fin 52) :
    boxW x (ix4 b a i j) = Ideal.exp (x (ix4 b ⟨a.val * 85 + 2, by omega⟩ i j)) * Ideal.div (anchorW a) stride := by
  pointwise [boxW, sig, cells_at]
  rw [(scaled_at a).1]
/-- The heights, read at an index. -/
theorem boxH_at (x : FVec Ideal S32x255x52x52 .f32) (b : Fin 32) (a : Fin 3) (i j : Fin 52) :
    boxH x (ix4 b a i j) = Ideal.exp (x (ix4 b ⟨a.val * 85 + 3, by omega⟩ i j)) * Ideal.div (anchorH a) stride := by
  pointwise [boxH, sig, cells_at]
  rw [(scaled_at a).2]
/-- The four box attributes, times the stride, are the decoded entries. -/
theorem boxes_at (x : FVec Ideal S32x255x52x52 .f32) (b : Fin 32) (q : Fin 8112) (r : Fin 4) :
    boxes x (ix3 b q r)
      = cell (x (ix4 b ⟨q.val / 2704 * 85 + r.val, by omega⟩ ⟨q.val / 52 % 52, by omega⟩ ⟨q.val % 52, by omega⟩))
          (q.val % 52) (q.val / 52 % 52) (anchorW ⟨q.val / 2704, by omega⟩) (anchorH ⟨q.val / 2704, by omega⟩) r.val := by
  pointwise [boxes, boxX_at, boxY_at, boxW_at, boxH_at]
  change _ * stride = _
  fin_cases r
  · rfl
  · rfl
  · exact (mul_assoc _ _ _).trans (congrArg _ (div_stride_mul _))
  · exact (mul_assoc _ _ _).trans (congrArg _ (div_stride_mul _))
/-- The confidences, read at an index. -/
theorem conf_at (x : FVec Ideal S32x255x52x52 .f32) (b : Fin 32) (q : Fin 8112) (k : Fin 1) :
    conf x (ix3 b q k)
      = Ideal.logistic (x (ix4 b ⟨q.val / 2704 * 85 + 4, by omega⟩ ⟨q.val / 52 % 52, by omega⟩ ⟨q.val % 52, by omega⟩)) := by
  pointwise [conf, sig, cells_at]
  rfl
/-- The class scores, read at an index. -/
theorem classes_at (x : FVec Ideal S32x255x52x52 .f32) (b : Fin 32) (q : Fin 8112) (r : Fin 80) :
    classes x (ix3 b q r)
      = Ideal.logistic (x (ix4 b ⟨q.val / 2704 * 85 + (5 + r.val), by omega⟩ ⟨q.val / 52 % 52, by omega⟩ ⟨q.val % 52, by omega⟩)) := by
  pointwise [classes, cells_at]
  rfl
/-- The reference's result at batch `b`, row `q`, attribute `r`. -/
theorem decoded_at (x : FVec Ideal S32x255x52x52 .f32) (b : Fin 32) (q : Fin 8112) (r : Fin 85) :
    decoded x (ix3 b q r)
      = cell (x (ix4 b ⟨q.val / 2704 * 85 + r.val, by omega⟩ ⟨q.val / 52 % 52, by omega⟩ ⟨q.val % 52, by omega⟩))
          (q.val % 52) (q.val / 52 % 52) (anchorW ⟨q.val / 2704, by omega⟩) (anchorH ⟨q.val / 2704, by omega⟩) r.val := by
  have hc : 4 ≤ r.val → ∀ v gx gy aw ah, cell v gx gy aw ah r.val = Ideal.logistic v := fun h v gx gy aw ah => by
    unfold cell
    rw [if_neg (by omega), if_neg (by omega), if_neg (by omega), if_neg (by omega)]
  pointwise [decoded]
  by_cases h : r.val < 4
  · exact (dif_pos h).trans (boxes_at x b q ⟨r.val, h⟩)
  refine (dif_neg h).trans ?_
  rw [hc (by omega)]
  by_cases h' : r.val - 4 < 1
  · refine (dif_pos h').trans ((conf_at x b q ⟨r.val - 4, h'⟩).trans ?_)
    refine congrArg (fun k : Fin 255 => Ideal.logistic (x (ix4 b k _ _))) (Fin.ext ?_)
    show _ + 4 = _ + r.val
    omega
  · refine (dif_neg h').trans ((classes_at x b q ⟨r.val - 4 - 1, by omega⟩).trans ?_)
    refine congrArg (fun k : Fin 255 => Ideal.logistic (x (ix4 b k _ _))) (Fin.ext ?_)
    show _ + (5 + (r.val - 4 - 1)) = _ + r.val
    omega

end Cert.ReferenceIdeal.Hand

end
-- ==== Proof.Value.lean ====
/-
  The kernel's decoded block read at an index.
-/
module

public import proofs.«01_k».proof.Proof.Ideal.Launch
public import proofs.«01_k».proof.Proof.Cell
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

open Cert.Decode

/-! ## The grid coordinates, in words -/

/-- The floored remainder by 52 as the kernel computes it. -/
def colW (n : BitVec 32) : BitVec 32 :=
  let d : BitVec 32 := Scalar.select (Scalar.cmpi .eq 52#32 0#32) 1#32 52#32
  Scalar.select
    (IntOp.andi (IntOp.xori (IntOp.cmpi .slt (IntOp.remsi .vector n d) 0#32) (Scalar.cmpi .slt 52#32 0#32))
      (IntOp.cmpi .ne (IntOp.remsi .vector n d) 0#32))
    (IntOp.addi (IntOp.remsi .vector n d) 52#32) (IntOp.remsi .vector n d)
/-- The floored quotient by 52 as the kernel computes it. -/
def rowW (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 52#32 0#32)) (Scalar.extui (Scalar.cmpi .slt 52#32 0#32))))
      (IntOp.cmpi .ne (IntOp.remsi .vector n 52#32) 0#32))
    (IntOp.subi (IntOp.divsi .vector n 52#32) 1#32) (IntOp.divsi .vector n 52#32)

/-- The kernel's remainder by 52 is the cell's column. -/
theorem colW_eq : ∀ c : Fin 2704, colW (BitVec.ofNat 32 c.val) = BitVec.ofNat 32 (c.val % 52) := by decide +kernel
/-- The kernel's quotient by 52 is the cell's row. -/
theorem rowW_eq : ∀ c : Fin 2704, rowW (BitVec.ofNat 32 c.val) = BitVec.ofNat 32 (c.val / 52) := by decide +kernel

/-- What is added to the head's row `r` at cell `c`: the column to row 0, the row to row 1. -/
theorem pay6_at (r : Fin 8) (c : Fin 2704) :
    k0_pay6 (F := Ideal) (iota .tc S8x2704 32 [0] iota_S8x2704_d0_w32) (iota .tc S8x2704 32 [1] iota_S8x2704_d1_w32) 52#32 k0_pay3 k0_pay4 k0_pay5 0#32 (ix2 r c)
      = if r.val = 0 then coord (c.val % 52) else if r.val = 1 then coord (c.val / 52) else 0 := by
  pointwise [k0_pay6, k0_pay4, k0_pay5, k0_pay3]
  change Scalar.select _ (FloatOps.sitofp FTy.f32 (colW (BitVec.ofNat 32 c.val))) (Scalar.select _ (FloatOps.sitofp FTy.f32 (rowW (BitVec.ofNat 32 c.val))) 0) = _
  rw [colW_eq, rowW_eq]
  fin_cases r <;> rfl

/-- What the head's row `r` is multiplied by: the stride on the two position rows. -/
theorem pay7_at (r : Fin 8) (c : Fin 2704) :
    k0_pay7 (F := Ideal) (iota .tc S8x2704 32 [0] iota_S8x2704_d0_w32) (ix2 r c) = if r.val ≤ 1 then stride else 1 := by
  pointwise [k0_pay7]
  fin_cases r <;> rfl

/-- The head's row `r`, before the transposition, is the decoded attribute. -/
theorem head_at (v : EReal) (aw ah : EReal) (r : Fin 8) (c : Fin 2704) :
    (Scalar.select (IntOp.ori (IntOp.cmpi .eq (BitVec.ofNat 32 r.val) 2#32) (IntOp.cmpi .eq (BitVec.ofNat 32 r.val) 3#32))
        (Ideal.exp v * Scalar.select (IntOp.cmpi .eq (BitVec.ofNat 32 r.val) 2#32) aw ah) (Ideal.logistic v)
      + (if r.val = 0 then coord (c.val % 52) else if r.val = 1 then coord (c.val / 52) else 0)) * (if r.val ≤ 1 then stride else 1)
      = cell v (c.val % 52) (c.val / 52) aw ah r.val := by
  have h1 (u : EReal) : (u + 0) * 1 = u := by rw [add_zero, mul_one]
  fin_cases r
  · rfl
  · rfl
  all_goals exact h1 _

/-- From attribute 4 on, a decoded entry is the sigmoid. -/
theorem cell_rest (v : EReal) (gx gy : ℕ) (aw ah : EReal) (r : ℕ) (h : 4 ≤ r) : cell v gx gy aw ah r = Ideal.logistic v := by
  unfold cell
  rw [if_neg (by omega), if_neg (by omega), if_neg (by omega), if_neg (by omega)]

/-! ## The three anchors -/

/-- The first anchor's transposed block is the decoded entries. -/
theorem pay9_at (x : FVec Ideal S255x2704 .f32) (r : Fin 85) (c : Fin 2704) :
    k0_pay9 (F := Ideal) x (iota .tc S8x2704 32 [0] iota_S8x2704_d0_w32)
        (k0_pay6 (iota .tc S8x2704 32 [0] iota_S8x2704_d0_w32) (iota .tc S8x2704 32 [1] iota_S8x2704_d1_w32) 52#32 k0_pay3 k0_pay4 k0_pay5 0#32)
        (k0_pay7 (iota .tc S8x2704 32 [0] iota_S8x2704_d0_w32)) 2#32 (ix2 c r)
      = cell (x (ix2 ⟨r.val, by omega⟩ c)) (c.val % 52) (c.val / 52) (anchorW 0) (anchorH 0) r.val := by
  pointwise [k0_pay9, k0_pay8]
  by_cases h : r.val < 8
  · refine (dif_pos h).trans ?_
    rw [pay6_at, pay7_at]
    exact head_at _ _ _ ⟨r.val, h⟩ c
  · refine (dif_neg h).trans ?_
    rw [cell_rest _ _ _ _ _ _ (by omega)]
    refine congrArg (fun k : Fin 255 => Ideal.logistic (x (ix2 k c))) (Fin.ext ?_)
    show 8 + (r.val - 8) = r.val; omega

/-- The second anchor's transposed block is the decoded entries. -/
theorem pay10_at (x : FVec Ideal S255x2704 .f32) (r : Fin 85) (c : Fin 2704) :
    k0_pay10 (F := Ideal) x (iota .tc S8x2704 32 [0] iota_S8x2704_d0_w32)
        (k0_pay6 (iota .tc S8x2704 32 [0] iota_S8x2704_d0_w32) (iota .tc S8x2704 32 [1] iota_S8x2704_d1_w32) 52#32 k0_pay3 k0_pay4 k0_pay5 0#32)
        (k0_pay7 (iota .tc S8x2704 32 [0] iota_S8x2704_d0_w32)) 2#32 (ix2 c r)
      = cell (x (ix2 ⟨85 + r.val, by omega⟩ c)) (c.val % 52) (c.val / 52) (anchorW 1) (anchorH 1) r.val := by
  pointwise [k0_pay10, k0_pay8]
  by_cases h : r.val < 8
  · refine (dif_pos h).trans ?_
    rw [pay6_at, pay7_at]
    exact head_at _ _ _ ⟨r.val, h⟩ c
  · refine (dif_neg h).trans ?_
    rw [cell_rest _ _ _ _ _ _ (by omega)]
    refine congrArg (fun k : Fin 255 => Ideal.logistic (x (ix2 k c))) (Fin.ext ?_)
    show 93 + (r.val - 8) = 85 + r.val; omega

/-- The first eight attributes of the third anchor, before the transposition, are the decoded entries. -/
theorem pay11_at (x : FVec Ideal S255x2704 .f32) (r : Fin 8) (c : Fin 2704) :
    k0_pay11 (F := Ideal) x (iota .tc S8x2704 32 [0] iota_S8x2704_d0_w32)
        (k0_pay6 (iota .tc S8x2704 32 [0] iota_S8x2704_d0_w32) (iota .tc S8x2704 32 [1] iota_S8x2704_d1_w32) 52#32 k0_pay3 k0_pay4 k0_pay5 0#32)
        (k0_pay7 (iota .tc S8x2704 32 [0] iota_S8x2704_d0_w32)) 2#32 (ix2 r c)
      = cell (x (ix2 ⟨170 + r.val, by omega⟩ c)) (c.val % 52) (c.val / 52) (anchorW 2) (anchorH 2) r.val := by
  pointwise [k0_pay11, k0_pay8]
  rw [pay6_at, pay7_at]
  exact head_at _ _ _ r c

/-- The third anchor's other attributes, as sliced from the input. -/
theorem pay12_at (x : FVec Ideal S255x2704 .f32) (r : Fin 77) (c : Fin 2704) :
    k0_pay12 (F := Ideal) x (ix2 r c) = x (ix2 ⟨178 + r.val, by omega⟩ c) := by
  pointwise [k0_pay12]

/-- A decoded attribute depends on its indices by their values. -/
theorem cell_at_congr (x : FVec Ideal S255x2704 .f32) (i i' : Fin 255) (j j' : Fin 2704) (gx gx' gy gy' r : ℕ) (a a' : Fin 3)
    (hi : i.val = i'.val) (hj : j.val = j'.val) (hx : gx = gx') (hy : gy = gy') (ha : a.val = a'.val) :
    cell (x (ix2 i j)) gx gy (anchorW a) (anchorH a) r = cell (x (ix2 i' j')) gx' gy' (anchorW a') (anchorH a') r := by
  rw [Fin.ext hi, Fin.ext hj, Fin.ext ha, hx, hy]

/-- The decoded block at row `q`, attribute `r`. -/
theorem decode_at (x : FVec Ideal S255x2704 .f32) (q : Fin 8112) (r : Fin 85) :
    decode x (ix2 q r)
      = cell (x (ix2 ⟨q.val / 2704 * 85 + r.val, by omega⟩ ⟨q.val % 2704, by omega⟩))
          (q.val % 52) (q.val / 52 % 52) (anchorW ⟨q.val / 2704, by omega⟩) (anchorH ⟨q.val / 2704, by omega⟩) r.val := by
  pointwise [decode, k0_pay1]
  by_cases h : q.val < 2704
  · refine (dif_pos h).trans ((pay9_at x r ⟨q.val, h⟩).trans ?_)
    apply cell_at_congr
    · show r.val = q.val / 2704 * 85 + r.val; omega
    · show q.val = q.val % 2704; omega
    · rfl
    · show q.val / 52 = q.val / 52 % 52; omega
    · show 0 = q.val / 2704; omega
  refine (dif_neg h).trans ?_
  by_cases h' : q.val - 2704 < 2704
  · refine (dif_pos h').trans ((pay10_at x r ⟨q.val - 2704, h'⟩).trans ?_)
    apply cell_at_congr
    · show 85 + r.val = q.val / 2704 * 85 + r.val; omega
    · show q.val - 2704 = q.val % 2704; omega
    · show (q.val - 2704) % 52 = q.val % 52; omega
    · show (q.val - 2704) / 52 = q.val / 52 % 52; omega
    · show 1 = q.val / 2704; omega
  refine (dif_neg h').trans ?_
  have hq : q.val - 2704 - 2704 < 2704 := by omega
  by_cases h'' : r.val < 8
  · refine (dif_pos h'').trans ((pay11_at x ⟨r.val, h''⟩ ⟨q.val - 2704 - 2704, hq⟩).trans ?_)
    apply cell_at_congr
    · show 170 + r.val = q.val / 2704 * 85 + r.val; omega
    · show q.val - 2704 - 2704 = q.val % 2704; omega
    · show (q.val - 2704 - 2704) % 52 = q.val % 52; omega
    · show (q.val - 2704 - 2704) / 52 = q.val / 52 % 52; omega
    · show 2 = q.val / 2704; omega
  · refine (dif_neg h'').trans ((congrArg Ideal.logistic (pay12_at x ⟨r.val - 8, by omega⟩ ⟨q.val - 2704 - 2704, hq⟩)).trans ?_)
    rw [cell_rest _ _ _ _ _ _ (by omega)]
    refine congrArg₂ (fun (k : Fin 255) (l : Fin 2704) => Ideal.logistic (x (ix2 k l))) (Fin.ext ?_) (Fin.ext ?_)
    · show 178 + (r.val - 8) = q.val / 2704 * 85 + r.val; omega
    · show q.val - 2704 - 2704 = q.val % 2704; omega

end Cert.KernelIdeal.Hand

end
-- ==== Proof.Equal.lean ====
/-
  The kernel's result is the reference's, element by element, when the two read the same argument.
-/
module

public import proofs.«01_k».proof.Proof.Value
public import proofs.«01_k».proof.Proof.RefValue
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Cert.Decode

/-- A block of the input without its leading axis of length one. -/
theorem drop_leadI (v : FVec Ideal S1x255x2704 .f32) (k : Fin 255) (l : Fin 2704) :
    shapeCast S255x2704 v shapeCasts_S1x255x2704_S255x2704 (ix2 k l) = v (ix3 0 k l) := by
  pointwise

/-- A block of the result without its leading axis of length one. -/
theorem drop_leadO (v : FVec Ideal S1x8112x85 .f32) (q : Fin 8112) (r : Fin 85) :
    shapeCast S8112x85 v shapeCasts_S1x8112x85_S8112x85 (ix2 q r) = v (ix3 0 q r) := by
  pointwise

/-- Batch `b` of the input, read at row `k` and cell `l`. -/
theorem read_rowI (c : Dev nD) (X : XBuf (F := Ideal) c) (b : Fin 32) (k : Fin 255) (l : Fin 2704) :
    (rowI b).view.read (Elt Ideal) X (ix2 k l) = (X : FVec Ideal S32x255x2704 .f32) (ix3 b k l) := by
  refine (congrFun (Memref.read_squeeze_slice xM (xRowR b) (fun _ => rfl) squeezes_S1x255x2704_S255x2704 shapeCasts_S1x255x2704_S255x2704 X) (ix2 k l)).trans ?_
  refine (drop_leadI _ k l).trans ?_
  refine congrArg (X : FVec Ideal S32x255x2704 .f32) (funext fun a => Fin.ext ?_)
  fin_cases a
  · show b.val + 1 * 0 = b.val
    omega
  · show 0 + 1 * k.val = k.val
    omega
  · show 0 + 1 * l.val = l.val
    omega

/-- Batch `b` of the result, read at row `q` and attribute `r`. -/
theorem read_rowO (c : Dev nD) (A : YBuf (F := Ideal) c) (b : Fin 32) (q : Fin 8112) (r : Fin 85) :
    (rowO b).view.read (Elt Ideal) A (ix2 q r) = (A : FVec Ideal S32x8112x85 .f32) (ix3 b q r) := by
  refine (congrFun (Memref.read_squeeze_slice oM (oRowR b) (fun _ => rfl) squeezes_S1x8112x85_S8112x85 shapeCasts_S1x8112x85_S8112x85 A) (ix2 q r)).trans ?_
  refine (drop_leadO _ q r).trans ?_
  refine congrArg (A : FVec Ideal S32x8112x85 .f32) (funext fun a => Fin.ext ?_)
  fin_cases a
  · show b.val + 1 * 0 = b.val
    omega
  · show 0 + 1 * q.val = q.val
    omega
  · show 0 + 1 * r.val = r.val
    omega

variable (m : (ℓ : Loc nD τ sig) → Buf (Elt Ideal) ℓ)

/-- The kernel's input buffer holds the argument, its grid flattened. -/
theorem V_v0 (c : Dev nD) (b : Fin 32) (k : Fin 255) (l : Fin 2704) :
    (V m c main_v0 : FVec Ideal S32x255x2704 .f32) (ix3 b k l)
      = (m (c.tc.loc main_arg0) : FVec Ideal S32x255x52x52 .f32) (ix4 b k ⟨l.val / 52, by omega⟩ ⟨l.val % 52, by omega⟩) := by
  entry_read
  pointwise

/-- The kernel's result at batch `b`, row `q`, attribute `r`. -/
theorem resultOf_at (c : Dev nD) (b : Fin 32) (q : Fin 8112) (r : Fin 85) :
    (resultOf m c : FVec Ideal S32x8112x85 .f32) (ix3 b q r)
      = cell ((m (c.tc.loc main_arg0) : FVec Ideal S32x255x52x52 .f32)
            (ix4 b ⟨q.val / 2704 * 85 + r.val, by omega⟩ ⟨q.val / 52 % 52, by omega⟩ ⟨q.val % 52, by omega⟩))
          (q.val % 52) (q.val / 52 % 52) (anchorW ⟨q.val / 2704, by omega⟩) (anchorH ⟨q.val / 2704, by omega⟩) r.val := by
  refine (read_rowO c ((rowO b).view.writes (Elt Ideal) (V m c main_v1) [⟨Rect.whole S8112x85, payW c (V m c main_v0) b⟩]) b q r).symm.trans ?_
  refine (congrFun (View.read_writes_whole (rowO b).view (V m c main_v1) (payW c (V m c main_v0) b)) (ix2 q r)).trans ?_
  refine (decode_at ((rowI b).view.read (Elt Ideal) (V m c main_v0)) q r).trans ?_
  rw [read_rowI, V_v0]
  have e1 : q.val % 2704 / 52 = q.val / 52 % 52 := by omega
  have e2 : q.val % 2704 % 52 = q.val % 52 := by omega
  simp only [e1, e2]

/-- The kernel's result is the reference's decoding of the kernel's argument. -/
theorem resultOf_eq (c : Dev nD) :
    (resultOf m c : FVec Ideal S32x8112x85 .f32)
      = Cert.ReferenceIdeal.Hand.decoded (m (c.tc.loc main_arg0) : FVec Ideal S32x255x52x52 .f32) := by
  funext y
  obtain ⟨b, q, r, rfl⟩ : ∃ (b : Fin 32) (q : Fin 8112) (r : Fin 85), y = ix3 b q r :=
    ⟨y 0, y 1, y 2, by funext a; fin_cases a <;> rfl⟩
  exact (resultOf_at m c b q r).trans (Cert.ReferenceIdeal.Hand.decoded_at _ b q r).symm

end Cert.KernelIdeal.Hand

end
-- ==== Proof.lean ====
/-
  The five claims about the kernel and its reference: the frames of the kernel at machine floats, of the kernel at
  extended reals and of the reference at extended reals, that the idealized kernel is the kernel's own text, and that
  the idealized kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ideal.Launch
public import proofs.«01_k».proof.Proof.RefValue
public import proofs.«01_k».proof.Proof.Equal
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel at machine floats: it runs, its argument unchanged, every counter back at zero. -/
theorem frame_kernel : Cert.quiescent_Kernel (hKernel := Cert.Kernel.Gen.facts) := fun m g _ => Cert.Kernel.Hand.frame_main m g

/-- The kernel at extended reals: the same. -/
theorem frame_kernelIdeal : Cert.quiescent_KernelIdeal (hKernelIdeal := Cert.KernelIdeal.Gen.facts) := fun m g _ => Cert.KernelIdeal.Hand.frame_main m g

/-- The reference at extended reals: it runs, its argument unchanged, every counter at zero. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- From memories agreeing on the argument, the kernel and the reference end with equal results. -/
theorem equal_results : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Hand.resultOf m c, ?_, ?_⟩
  · exact (θ_run _ _ _).mono (fun _ h => h.1) (Cert.KernelIdeal.Hand.run_main m g)
  · refine (θ_run _ _ _).mono (fun _ h c => ?_) (Cert.ReferenceIdeal.Value.run m' g')
    refine ⟨(h c).1.trans ?_, (h c).2⟩
    refine Eq.trans ?_ (Cert.KernelIdeal.Hand.resultOf_eq m c).symm
    exact (Cert.ReferenceIdeal.Hand.res_eq m' c).trans (congrArg Cert.ReferenceIdeal.Hand.decoded (hagree c))

theorem claim : Cert.Claim := ⟨Cert.Kernel.Gen.facts, Cert.KernelIdeal.Gen.facts, Cert.ReferenceIdeal.Gen.facts,
  frame_kernel, frame_kernelIdeal, frame_reference, trivial, equal_results⟩

end Cert.Proof

end
